-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x5120 : Shape := ⟨3, ![128, 1, 5120]⟩
abbrev S128x1x1 : Shape := ⟨3, ![128, 1, 1]⟩
abbrev S5120x6912 : Shape := ⟨2, ![5120, 6912]⟩
abbrev S1x6912 : Shape := ⟨2, ![1, 6912]⟩
abbrev S128x5120 : Shape := ⟨2, ![128, 5120]⟩
abbrev S128x1 : Shape := ⟨2, ![128, 1]⟩
abbrev S128x6912 : Shape := ⟨2, ![128, 6912]⟩
abbrev S5120x768 : Shape := ⟨2, ![5120, 768]⟩
abbrev S1x768 : Shape := ⟨2, ![1, 768]⟩
abbrev S128x768 : Shape := ⟨2, ![128, 768]⟩
abbrev S128 : Shape := ⟨1, ![128]⟩
abbrev S1x256 : Shape := ⟨2, ![1, 256]⟩
abbrev S128x256 : Shape := ⟨2, ![128, 256]⟩

abbrev nBuf : Space → Nat
  | .hbm => 8
  | .vmem => 10
  | .smem => 0
  | _ => 0

abbrev bufTy : (tb : Table) → Fin (tcTables nBuf tb) → BufTy
  | .hbm, ⟨0, _⟩ => ⟨S128x1x5120, .fp8e4m3⟩
  | .hbm, ⟨1, _⟩ => ⟨S128x1x1, .f32⟩
  | .hbm, ⟨2, _⟩ => ⟨S5120x6912, .fp8e4m3⟩
  | .hbm, ⟨3, _⟩ => ⟨S1x6912, .f32⟩
  | .hbm, ⟨4, _⟩ => ⟨S128x5120, .fp8e4m3⟩
  | .hbm, ⟨5, _⟩ => ⟨S128x1, .f32⟩
  | .hbm, ⟨6, _⟩ => ⟨S128x1, .f32⟩
  | .hbm, ⟨7, _⟩ => ⟨S128x6912, .fp8e4m3⟩
  | .local _ .vmem, ⟨0, _⟩ => ⟨S128x5120, .fp8e4m3⟩
  | .local _ .vmem, ⟨1, _⟩ => ⟨S128x1, .f32⟩
  | .local _ .vmem, ⟨2, _⟩ => ⟨S5120x768, .fp8e4m3⟩
  | .local _ .vmem, ⟨3, _⟩ => ⟨S5120x768, .fp8e4m3⟩
  | .local _ .vmem, ⟨4, _⟩ => ⟨S1x768, .f32⟩
  | .local _ .vmem, ⟨5, _⟩ => ⟨S1x768, .f32⟩
  | .local _ .vmem, ⟨6, _⟩ => ⟨S128x1, .f32⟩
  | .local _ .vmem, ⟨7, _⟩ => ⟨S128x6912, .fp8e4m3⟩
  | .local _ .vmem, ⟨8, _⟩ => ⟨S128x6912, .f32⟩
  | .local _ .vmem, ⟨9, _⟩ => ⟨S128x1, .f32⟩
  | _, _ => ⟨S128x1x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![9], ![false]⟩

def k0_mult1 (i : grid0.Coords) : BitVec 32 :=
  let arg0 : BitVec 32 := BitVec.ofNat 32 (i 0).val
  let c768_i32 : BitVec 32 := 768#32
  let v11 : BitVec 32 := Scalar.muli arg0 c768_i32
  v11
def k0_off1 (i : grid0.Coords) : Fin 2 → Nat :=
  let c0_7 : Index := 0#32
  let arg0 : BitVec 32 := BitVec.ofNat 32 (i 0).val
  let c768_i32 : BitVec 32 := 768#32
  let v11 : BitVec 32 := Scalar.muli arg0 c768_i32
  let v12 : BitVec 32 := v11
  let v13 : Index := Scalar.indexCast v12
  ![0, v13.toNat]
def k0_cond3 (i : grid0.Coords) : BitVec 1 :=
  let arg0 : BitVec 32 := BitVec.ofNat 32 (i 0).val
  let c8_i32 : BitVec 32 := 8#32
  let v26 : BitVec 1 := Scalar.cmpi .eq arg0 c8_i32
  let v27 : BitVec 32 := Scalar.extui v26
  let c0_i32_12 : BitVec 32 := 0#32
  let v28 : BitVec 1 := Scalar.cmpi .ne v27 c0_i32_12
  v28

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5120x768 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x6912 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S128x1x5120 : Shape := ⟨3, ![128, 1, 5120]⟩
abbrev S128x1x1 : Shape := ⟨3, ![128, 1, 1]⟩
abbrev S5120x6912 : Shape := ⟨2, ![5120, 6912]⟩
abbrev S1x6912 : Shape := ⟨2, ![1, 6912]⟩
abbrev S128x5120 : Shape := ⟨2, ![128, 5120]⟩
abbrev S128x1 : Shape := ⟨2, ![128, 1]⟩
abbrev S128x6912 : Shape := ⟨2, ![128, 6912]⟩
abbrev S128 : Shape := ⟨1, ![128]⟩
abbrev S1x254 : Shape := ⟨2, ![1, 254]⟩
abbrev S128x254 : Shape := ⟨2, ![128, 254]⟩

abbrev nBuf : Space → Nat
  | .hbm => 8
  | .vmem => 6
  | .smem => 0
  | _ => 0

abbrev bufTy : (tb : Table) → Fin (tcTables nBuf tb) → BufTy
  | .hbm, ⟨0, _⟩ => ⟨S128x1x5120, .fp8e4m3⟩
  | .hbm, ⟨1, _⟩ => ⟨S128x1x1, .f32⟩
  | .hbm, ⟨2, _⟩ => ⟨S5120x6912, .fp8e4m3⟩
  | .hbm, ⟨3, _⟩ => ⟨S1x6912, .f32⟩
  | .hbm, ⟨4, _⟩ => ⟨S128x5120, .fp8e4m3⟩
  | .hbm, ⟨5, _⟩ => ⟨S128x1, .f32⟩
  | .hbm, ⟨6, _⟩ => ⟨S128x1, .f32⟩
  | .hbm, ⟨7, _⟩ => ⟨S128x6912, .fp8e4m3⟩
  | .local _ .vmem, ⟨0, _⟩ => ⟨S128x5120, .fp8e4m3⟩
  | .local _ .vmem, ⟨1, _⟩ => ⟨S128x1, .f32⟩
  | .local _ .vmem, ⟨2, _⟩ => ⟨S5120x6912, .fp8e4m3⟩
  | .local _ .vmem, ⟨3, _⟩ => ⟨S1x6912, .f32⟩
  | .local _ .vmem, ⟨4, _⟩ => ⟨S128x1, .f32⟩
  | .local _ .vmem, ⟨5, _⟩ => ⟨S128x6912, .fp8e4m3⟩
  | _, _ => ⟨S128x1x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S128x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x6912 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6912 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x6912 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRuns.lean ====
module

public import proofs.«01_k».proof.Proof.Gen.Kernel.Frame
public import proofs.«01_k».proof.Proof.Gen.Kernel.Skeleton
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, e0]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 9 = 8 :=
  (fun t => by
    have ht : t.val < 9 := Nat.lt_of_lt_of_eq t.isLt N_0
    have e0 : (grid0.coords t 0).val = t.val / 1 % 9 := Pipeline.Grid.coords_val t 0 (by decide) rfl
    simp only [cond0_2, k0_cond3, e0]
    word_cmp
   : ∀ t : Fin grid0.N, cond0_2 (grid0.coords t) ↔ t.val % 9 = 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x5120 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x768 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x6912 .fp8e4m3 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S128x6912 .f32 := Memref.whole cc0_scratch0
abbrev scM0_1 : Memref sig .tc .vmem S128x1 .f32 := Memref.whole cc0_scratch1
/-- The scratch `arg8` the kernel carries between points, as a view: what it holds is stated through it. -/
abbrev VS0_1 : View sig .tc .vmem S128x1 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The wide scratch `d7` with the product block `b` of grid point `i` stored over its 768 columns. -/
def putBlock (i : grid0.Coords) (d7 : Vec F S128x6912 .f32) (b : Vec F S128x768 .f32) : Vec F S128x6912 .f32 :=
  VecWindow.put (s := S128x6912) d7 (k0_off1 i) S128x768.size b

/-- The body at the first grid point: the product block goes into the wide scratch, its row maxima into the narrow one. -/
theorem run_A (c : Dev nD) (i : grid0.Coords)
    (arg1 : Memref sig .tc .vmem S128x5120 .fp8e4m3) (harg1 : arg1.IsWhole)
    (arg2 : Memref sig .tc .vmem S128x1 .f32) (harg2 : arg2.IsWhole)
    (arg3 : Memref sig .tc .vmem S5120x768 .fp8e4m3) (harg3 : arg3.IsWhole)
    (arg4 : Memref sig .tc .vmem S1x768 .f32) (harg4 : arg4.IsWhole)
    (arg5 : Memref sig .tc .vmem S128x1 .f32) (harg5 : arg5.IsWhole)
    (arg6 : Memref sig .tc .vmem S128x6912 .fp8e4m3) (harg6 : arg6.IsWhole)
    (arg7 : Memref sig .tc .vmem S128x6912 .f32) (harg7 : arg7.IsWhole)
    (arg8 : Memref sig .tc .vmem S128x1 .f32) (harg8 : arg8.IsWhole)
    (hc0 : cond0_0 i) (hc1 : ¬cond0_1 i) (hc2 : ¬cond0_2 i)
    (x0 : Vec F S128x5120 .fp8e4m3) (x1 : Vec F S128x1 .f32) (x2 : Vec F S5120x768 .fp8e4m3) (x3 : Vec F S1x768 .f32)
    (d7 : Vec F S128x6912 .f32) (d8 : Vec F S128x1 .f32) (E : Set ℕ) (K : PUnit → sProp 𝕄) :
    iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg7 fullShare d7 ∗ owns (c : Thread nD τ) arg8 fullShare d8
            ∗ (iprop(owns (c : Thread nD τ) arg1 fullShare x0 ∗ owns (c : Thread nD τ) arg2 fullShare x1
            ∗ owns (c : Thread nD τ) arg3 fullShare x2 ∗ owns (c : Thread nD τ) arg4 fullShare x3
                ∗ owns (c : Thread nD τ) arg7 fullShare (putBlock i d7 (k0_pay2 x0 x2 x1 x3))
                ∗ owns (c : Thread nD τ) arg8 fullShare (k0_pay4 x0 x2 x1 x3)) -∗ K ⟨⟩))
      ⊢ wp frame (wpE (defs₀ (F := F)) Variants.none c none) E (cc0__linear_requant_kernel i arg1 harg1 arg2 harg2 arg3 harg3 arg4 harg4 arg5 harg5 arg6 harg6 arg7 harg7 arg8 harg8) K := by
  simp only [cc0__linear_requant_kernel_eq_skeleton]; unfold cc0__linear_requant_kernel_skel
  unfold owns
  iintro ⟨⟨%f0, %hf0, H0⟩, ⟨%f1, %hf1, H1⟩, ⟨%f2, %hf2, H2⟩, ⟨%f3, %hf3, H3⟩, ⟨%f7, %hf7, HS0⟩, ⟨%f8, %hf8, HS1⟩, Hk⟩
  obtain rfl := harg1.eq_unread hf0; obtain rfl := harg2.eq_unread hf1; obtain rfl := harg3.eq_unread hf2
  obtain rfl := harg4.eq_unread hf3; obtain rfl := harg8.eq_unread hf8; obtain rfl := harg7.eq_unread hf7
  sl_exec (disch := first | sl_exact hc0 | sl_exact hc1 | sl_exact hc2)
  sl_step
  have e1 : View.readAt (Elt F) arg1.view (Rect.unit ![0, 0] ![128, 5120] inb_S128x5120_S128x5120_0_0).toLoadRect (harg1.unread x0) = x0 :=
    (View.readAt_full (s := S128x5120) _ _ _).trans (harg1.read_unread _)
  have e2 : View.readAt (Elt F) arg2.view (Rect.unit ![0, 0] ![128, 1] inb_S128x1_S128x1_0_0).toLoadRect (harg2.unread x1) = x1 :=
    (View.readAt_full (s := S128x1) _ _ _).trans (harg2.read_unread _)
  have e3 : View.readAt (Elt F) arg3.view (Rect.unit ![0, 0] ![5120, 768] inb_S5120x768_S5120x768_0_0).toLoadRect (harg3.unread x2) = x2 :=
    (View.readAt_full (s := S5120x768) _ _ _).trans (harg3.read_unread _)
  have e4 : View.readAt (Elt F) arg4.view (Rect.unit ![0, 0] ![1, 768] inb_S1x768_S1x768_0_0).toLoadRect (harg4.unread x3) = x3 :=
    (View.readAt_full (s := S1x768) _ _ _).trans (harg4.read_unread _)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; swap; · iexact HS0
    ipureintro
    rw [View.read_writes_cons_put _ _ _ _ _ rfl, View.writes_nil, harg7.read_unread, e1, e2, e3, e4]; rfl
  iexists _; isplitr; swap; · iexact HS1
  ipureintro
  rw [e1, e2, e3, e4]; exact View.read_writes_full (s := S128x1) _ _ _ _ _

/-- The body at a point strictly between the first and the last: the block into the wide scratch, the running row maxima in the narrow one. -/
theorem run_B (c : Dev nD) (i : grid0.Coords)
    (arg1 : Memref sig .tc .vmem S128x5120 .fp8e4m3) (harg1 : arg1.IsWhole)
    (arg2 : Memref sig .tc .vmem S128x1 .f32) (harg2 : arg2.IsWhole)
    (arg3 : Memref sig .tc .vmem S5120x768 .fp8e4m3) (harg3 : arg3.IsWhole)
    (arg4 : Memref sig .tc .vmem S1x768 .f32) (harg4 : arg4.IsWhole)
    (arg5 : Memref sig .tc .vmem S128x1 .f32) (harg5 : arg5.IsWhole)
    (arg6 : Memref sig .tc .vmem S128x6912 .fp8e4m3) (harg6 : arg6.IsWhole)
    (arg7 : Memref sig .tc .vmem S128x6912 .f32) (harg7 : arg7.IsWhole)
    (arg8 : Memref sig .tc .vmem S128x1 .f32) (harg8 : arg8.IsWhole)
    (hc0 : ¬cond0_0 i) (hc1 : cond0_1 i) (hc2 : ¬cond0_2 i)
    (x0 : Vec F S128x5120 .fp8e4m3) (x1 : Vec F S128x1 .f32) (x2 : Vec F S5120x768 .fp8e4m3) (x3 : Vec F S1x768 .f32)
    (d7 : Vec F S128x6912 .f32) (d8 : Vec F S128x1 .f32) (E : Set ℕ) (K : PUnit → sProp 𝕄) :
    iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg7 fullShare d7 ∗ owns (c : Thread nD τ) arg8 fullShare d8
            ∗ (iprop(owns (c : Thread nD τ) arg1 fullShare x0 ∗ owns (c : Thread nD τ) arg2 fullShare x1
            ∗ owns (c : Thread nD τ) arg3 fullShare x2 ∗ owns (c : Thread nD τ) arg4 fullShare x3
                ∗ owns (c : Thread nD τ) arg7 fullShare (putBlock i d7 (k0_pay2 x0 x2 x1 x3))
                ∗ owns (c : Thread nD τ) arg8 fullShare (k0_pay5 x0 x2 x1 x3 d8)) -∗ K ⟨⟩))
      ⊢ wp frame (wpE (defs₀ (F := F)) Variants.none c none) E (cc0__linear_requant_kernel i arg1 harg1 arg2 harg2 arg3 harg3 arg4 harg4 arg5 harg5 arg6 harg6 arg7 harg7 arg8 harg8) K := by
  simp only [cc0__linear_requant_kernel_eq_skeleton]; unfold cc0__linear_requant_kernel_skel
  unfold owns
  iintro ⟨⟨%f0, %hf0, H0⟩, ⟨%f1, %hf1, H1⟩, ⟨%f2, %hf2, H2⟩, ⟨%f3, %hf3, H3⟩, ⟨%f7, %hf7, HS0⟩, ⟨%f8, %hf8, HS1⟩, Hk⟩
  obtain rfl := harg1.eq_unread hf0; obtain rfl := harg2.eq_unread hf1; obtain rfl := harg3.eq_unread hf2
  obtain rfl := harg4.eq_unread hf3; obtain rfl := harg8.eq_unread hf8; obtain rfl := harg7.eq_unread hf7
  sl_exec (disch := first | sl_exact hc0 | sl_exact hc1 | sl_exact hc2)
  sl_step
  have e1 : View.readAt (Elt F) arg1.view (Rect.unit ![0, 0] ![128, 5120] inb_S128x5120_S128x5120_0_0).toLoadRect (harg1.unread x0) = x0 :=
    (View.readAt_full (s := S128x5120) _ _ _).trans (harg1.read_unread _)
  have e2 : View.readAt (Elt F) arg2.view (Rect.unit ![0, 0] ![128, 1] inb_S128x1_S128x1_0_0).toLoadRect (harg2.unread x1) = x1 :=
    (View.readAt_full (s := S128x1) _ _ _).trans (harg2.read_unread _)
  have e3 : View.readAt (Elt F) arg3.view (Rect.unit ![0, 0] ![5120, 768] inb_S5120x768_S5120x768_0_0).toLoadRect (harg3.unread x2) = x2 :=
    (View.readAt_full (s := S5120x768) _ _ _).trans (harg3.read_unread _)
  have e4 : View.readAt (Elt F) arg4.view (Rect.unit ![0, 0] ![1, 768] inb_S1x768_S1x768_0_0).toLoadRect (harg4.unread x3) = x3 :=
    (View.readAt_full (s := S1x768) _ _ _).trans (harg4.read_unread _)
  have e8 : View.readAt (Elt F) arg8.view (Rect.unit ![0, 0] ![128, 1] inb_S128x1_S128x1_0_0).toLoadRect (harg8.unread d8) = d8 :=
    (View.readAt_full (s := S128x1) _ _ _).trans (harg8.read_unread _)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; swap; · iexact HS0
    ipureintro
    rw [View.read_writes_cons_put _ _ _ _ _ rfl, View.writes_nil, harg7.read_unread, e1, e2, e3, e4]; rfl
  iexists _; isplitr; swap; · iexact HS1
  ipureintro
  rw [e1, e2, e3, e4, e8]; exact View.read_writes_full (s := S128x1) _ _ _ _ _

/-- The body at the last point: the block and the row maxima as before, then both outputs from the finished scratch. -/
theorem run_C (c : Dev nD) (i : grid0.Coords)
    (arg1 : Memref sig .tc .vmem S128x5120 .fp8e4m3) (harg1 : arg1.IsWhole)
    (arg2 : Memref sig .tc .vmem S128x1 .f32) (harg2 : arg2.IsWhole)
    (arg3 : Memref sig .tc .vmem S5120x768 .fp8e4m3) (harg3 : arg3.IsWhole)
    (arg4 : Memref sig .tc .vmem S1x768 .f32) (harg4 : arg4.IsWhole)
    (arg5 : Memref sig .tc .vmem S128x1 .f32) (harg5 : arg5.IsWhole)
    (arg6 : Memref sig .tc .vmem S128x6912 .fp8e4m3) (harg6 : arg6.IsWhole)
    (arg7 : Memref sig .tc .vmem S128x6912 .f32) (harg7 : arg7.IsWhole)
    (arg8 : Memref sig .tc .vmem S128x1 .f32) (harg8 : arg8.IsWhole)
    (hc0 : ¬cond0_0 i) (hc1 : cond0_1 i) (hc2 : cond0_2 i)
    (x0 : Vec F S128x5120 .fp8e4m3) (x1 : Vec F S128x1 .f32) (x2 : Vec F S5120x768 .fp8e4m3) (x3 : Vec F S1x768 .f32)
    (d7 : Vec F S128x6912 .f32) (d8 : Vec F S128x1 .f32) (E : Set ℕ) (K : PUnit → sProp 𝕄) :
    iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ owns (c : Thread nD τ) arg7 fullShare d7 ∗ owns (c : Thread nD τ) arg8 fullShare d8
            ∗ (iprop(owns (c : Thread nD τ) arg1 fullShare x0 ∗ owns (c : Thread nD τ) arg2 fullShare x1
            ∗ owns (c : Thread nD τ) arg3 fullShare x2 ∗ owns (c : Thread nD τ) arg4 fullShare x3
                ∗ owns (c : Thread nD τ) arg5 fullShare (k0_pay8 (k0_pay5 x0 x2 x1 x3 d8))
                ∗ owns (c : Thread nD τ) arg6 fullShare (k0_pay6 (putBlock i d7 (k0_pay2 x0 x2 x1 x3)) (k0_pay9 (k0_pay5 x0 x2 x1 x3 d8)))
                ∗ owns (c : Thread nD τ) arg7 fullShare (putBlock i d7 (k0_pay2 x0 x2 x1 x3))
                ∗ owns (c : Thread nD τ) arg8 fullShare (k0_pay5 x0 x2 x1 x3 d8)) -∗ K ⟨⟩))
      ⊢ wp frame (wpE (defs₀ (F := F)) Variants.none c none) E (cc0__linear_requant_kernel i arg1 harg1 arg2 harg2 arg3 harg3 arg4 harg4 arg5 harg5 arg6 harg6 arg7 harg7 arg8 harg8) K := by
  simp only [cc0__linear_requant_kernel_eq_skeleton]; unfold cc0__linear_requant_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f7, %hf7, HS0⟩, ⟨%f8, %hf8, HS1⟩, Hk⟩
  obtain rfl := harg1.eq_unread hf0; obtain rfl := harg2.eq_unread hf1; obtain rfl := harg3.eq_unread hf2
  obtain rfl := harg4.eq_unread hf3; obtain rfl := harg8.eq_unread hf8; obtain rfl := harg7.eq_unread hf7
  sl_exec (disch := first | sl_exact hc0 | sl_exact hc1 | sl_exact hc2)
  sl_step
  have e1 : View.readAt (Elt F) arg1.view (Rect.unit ![0, 0] ![128, 5120] inb_S128x5120_S128x5120_0_0).toLoadRect (harg1.unread x0) = x0 :=
    (View.readAt_full (s := S128x5120) _ _ _).trans (harg1.read_unread _)
  have e2 : View.readAt (Elt F) arg2.view (Rect.unit ![0, 0] ![128, 1] inb_S128x1_S128x1_0_0).toLoadRect (harg2.unread x1) = x1 :=
    (View.readAt_full (s := S128x1) _ _ _).trans (harg2.read_unread _)
  have e3 : View.readAt (Elt F) arg3.view (Rect.unit ![0, 0] ![5120, 768] inb_S5120x768_S5120x768_0_0).toLoadRect (harg3.unread x2) = x2 :=
    (View.readAt_full (s := S5120x768) _ _ _).trans (harg3.read_unread _)
  have e4 : View.readAt (Elt F) arg4.view (Rect.unit ![0, 0] ![1, 768] inb_S1x768_S1x768_0_0).toLoadRect (harg4.unread x3) = x3 :=
    (View.readAt_full (s := S1x768) _ _ _).trans (harg4.read_unread _)
  have e8 : View.readAt (Elt F) arg8.view (Rect.unit ![0, 0] ![128, 1] inb_S128x1_S128x1_0_0).toLoadRect (harg8.unread d8) = d8 :=
    (View.readAt_full (s := S128x1) _ _ _).trans (harg8.read_unread _)
  have e7 : arg7.view.read (Elt F) (arg7.view.writes (Elt F) (harg7.unread d7)
      (run_C.sl.HS0_1 c i arg1 harg1 arg2 harg2 arg3 harg3 arg4 harg4 x0 x1 x2 x3)) = putBlock i d7 (k0_pay2 x0 x2 x1 x3) := by
    unfold run_C.sl.HS0_1
    rw [View.read_writes_cons_put _ _ _ _ _ rfl, View.writes_nil, harg7.read_unread, e1, e2, e3, e4]; rfl
  have e29 : run_C.sl.v29 c arg1 harg1 arg2 harg2 arg3 harg3 arg4 harg4 arg8 harg8 x0 x1 x2 x3 d8 = k0_pay5 x0 x2 x1 x3 d8 := by
    unfold run_C.sl.v29 run_C.sl.HS1_1
    rw [e1, e2, e3, e4, e8]; exact View.readCov_full (s := S128x1) _ _ _ _ _
  have e65 : run_C.sl.v65 c i arg1 harg1 arg2 harg2 arg3 harg3 arg4 harg4 arg7 harg7 x0 x1 x2 x3 d7 = putBlock i d7 (k0_pay2 x0 x2 x1 x3) := by
    unfold run_C.sl.v65
    exact (View.readAt_full (s := S128x6912) _ _ _).trans e7
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    rw [e29]; exact View.read_writes_full (s := S128x1) _ _ _ _ _
  isplitl [H5]
  · iexists _; isplitr; swap; · iexact H5
    ipureintro
    rw [e29, e65]; exact View.read_writes_full (s := S128x6912) _ _ _ _ _
  isplitl [HS0]
  · iexists _; isplitr; swap; · iexact HS0
    ipureintro
    exact e7
  iexists _; isplitr; swap; · iexact HS1
  ipureintro
  unfold run_C.sl.HS1_1
  rw [e1, e2, e3, e4, e8]; exact View.read_writes_full (s := S128x1) _ _ _ _ _

end Cert.Kernel.Gen

end
-- ==== Proof.KernelFrame.lean ====
module

public import proofs.«01_k».proof.Proof.KernelRuns
public import Idealize.ShloMosaic.Lib.ValueIdxCore
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch and the outputs hold -/

/-- The product block of grid point `t`: 128 rows by the point's 768 columns. -/
def yBlock (c : Dev nD) (t : Fin cfg0.N) : Vec F S128x768 .f32 :=
  k0_pay2 (iblk m c 0 t) (iblk m c 2 t) (iblk m c 1 t) (iblk m c 3 t)

/-- The running row maxima after point `n`. -/
def amaxAt (c : Dev nD) : (n : ℕ) → n < cfg0.N → Vec F S128x1 .f32
  | 0, h => k0_pay4 (iblk m c 0 ⟨0, h⟩) (iblk m c 2 ⟨0, h⟩) (iblk m c 1 ⟨0, h⟩) (iblk m c 3 ⟨0, h⟩)
  | n + 1, h => k0_pay5 (iblk m c 0 ⟨n + 1, h⟩) (iblk m c 2 ⟨n + 1, h⟩) (iblk m c 1 ⟨n + 1, h⟩) (iblk m c 3 ⟨n + 1, h⟩)
      (amaxAt c n (Nat.lt_of_succ_lt h))

/-- The product, all 6912 columns: column `x 1` comes from the block of point `x 1 / 768`. -/
def wide (c : Dev nD) : Vec F S128x6912 .f32 := fun x =>
  yBlock m c ⟨(x 1).val / 768, by
      have h : (x 1).val < 6912 := (x 1).isLt
      rw [show cfg0.N = 9 from N_0]; omega⟩
    (ValueIdx.ix2 (n0 := 128) (n1 := 768) (x 0) ⟨(x 1).val % 768, Nat.mod_lt _ (by decide)⟩)

/-- The first `n` blocks of columns of `d` are those of the product. -/
def Filled (c : Dev nD) (n : ℕ) (d : Vec F S128x6912 .f32) : Prop :=
  ∀ x : S128x6912.Idx, (x 1).val < 768 * n → d x = wide m c x

theorem filled_zero (c : Dev nD) (d : Vec F S128x6912 .f32) : Filled m c 0 d := fun x h => absurd h (by omega)

/-- The columns of point `t` start at `768 * t`. -/
theorem off1_closed : ∀ t : Fin cfg0.N, k0_off1 (grid0.coords t) = ![0, 768 * t.val] :=
  (by decide +kernel : ∀ t : Fin grid0.N, k0_off1 (grid0.coords t) = ![0, 768 * t.val])

/-- Storing the block of point `t` extends the filled part by that block. -/
theorem filled_succ (c : Dev nD) (t : Fin cfg0.N) (d : Vec F S128x6912 .f32) (h : Filled m c t.val d) :
    Filled m c (t.val + 1) (putBlock (grid0.coords t) d (yBlock m c t)) := by
  intro x hx
  have ht : t.val < 9 := lt_of_lt_of_eq t.isLt N_0
  unfold putBlock VecWindow.put
  by_cases hc : 768 * t.val ≤ (x 1).val
  · have hin : ∀ a, k0_off1 (grid0.coords t) a ≤ (x a).val ∧ (x a).val < k0_off1 (grid0.coords t) a + S128x768.size a := by
      rw [off1_closed t]
      intro a
      match a with
      | ⟨0, _⟩ => exact ⟨Nat.zero_le _, by have : (x 0).val < 128 := (x 0).isLt; show (x 0).val < 0 + 128; omega⟩
      | ⟨1, _⟩ => exact ⟨hc, by show (x 1).val < 768 * t.val + 768; omega⟩
    rw [dif_pos hin]
    have e : (x 1).val / 768 = t.val := by omega
    unfold wide
    have et : (⟨(x 1).val / 768, by
      have h : (x 1).val < 6912 := (x 1).isLt
      rw [show cfg0.N = 9 from N_0]; omega⟩ : Fin cfg0.N) = t := Fin.ext e
    rw [et]
    refine congrArg (yBlock m c t) (funext fun a => ?_)
    match a with
    | ⟨0, _⟩ => exact Fin.ext (by
        show (x 0).val - k0_off1 (grid0.coords t) 0 = (x 0).val
        rw [off1_closed t]; rfl)
    | ⟨1, _⟩ => exact Fin.ext (by
        show (x 1).val - k0_off1 (grid0.coords t) 1 = (x 1).val % 768
        rw [off1_closed t]; show (x 1).val - 768 * t.val = _; omega)
  · have hout : ¬ ∀ a, k0_off1 (grid0.coords t) a ≤ (x a).val ∧ (x a).val < k0_off1 (grid0.coords t) a + S128x768.size a := by
      intro hh; have := (hh 1).1; rw [off1_closed t] at this; exact hc this
    rw [dif_neg hout]
    exact h x (by omega)

/-- After the last point the wide scratch is the product. -/
theorem filled_last (c : Dev nD) (d : Vec F S128x6912 .f32) (h : Filled m c 9 d) : d = wide m c :=
  funext fun x => h x (by have : (x 1).val < 6912 := (x 1).isLt; omega)

theorem eight_lt : 8 < cfg0.N := by rw [show cfg0.N = 9 from N_0]; omega

/-- The row scales the kernel leaves. -/
def scaleOut (c : Dev nD) : Vec F S128x1 .f32 := k0_pay8 (amaxAt m c 8 eight_lt)

/-- The codes the kernel leaves. -/
def codesOut (c : Dev nD) : Vec F S128x6912 .fp8e4m3 := k0_pay6 (wide m c) (k0_pay9 (amaxAt m c 8 eight_lt))

/-! ## The invariant between points -/

/-- Before the first point the scratch holds anything; after point `n` the wide scratch holds the first `n + 1` blocks of
    the product and the narrow one the row maxima so far. -/
def PhiS (c : Dev nD) : (n : ℕ) → n ≤ cfg0.N → sProp 𝕄
  | 0, _ => Pipeline.ΦA spec0 c
  | n + 1, hn => iprop(iprop((∃ d, ⌜Filled m c (n + 1) d⌝ ∗ owns (c : Thread nD τ) scM0_0 fullShare d)
      ∗ owns (c : Thread nD τ) scM0_1 fullShare (amaxAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, ⌜Filled m c (n + 1) d⌝ ∗ owns (c : Thread nD τ) scM0_0 fullShare d)
      ∗ owns (c : Thread nD τ) scM0_1 fullShare (amaxAt m c n hn)) ∗ (∃ r, prngReg c r)) := rfl

theorem PhiS_pos (c : Dev nD) (n : ℕ) (h : n ≤ cfg0.N) (hz : n ≠ 0) :
    PhiS m c n h = iprop(iprop((∃ d, ⌜Filled m c n d⌝ ∗ owns (c : Thread nD τ) scM0_0 fullShare d)
      ∗ owns (c : Thread nD τ) scM0_1 fullShare (amaxAt m c (n - 1) (by omega))) ∗ (∃ r, prngReg c r)) := by
  cases n with
  | zero => exact absurd rfl hz
  | succ n => rfl

theorem amaxAt_first (c : Dev nD) (t : Fin cfg0.N) (hz : t.val = 0) :
    amaxAt m c t.val t.isLt = k0_pay4 (iblk m c 0 t) (iblk m c 2 t) (iblk m c 1 t) (iblk m c 3 t) := by
  obtain ⟨n, hn⟩ := t
  cases n with
  | zero => exact rfl
  | succ n => exact absurd hz (Nat.succ_ne_zero n)

theorem amaxAt_next (c : Dev nD) (t : Fin cfg0.N) (hz : t.val ≠ 0) :
    amaxAt m c t.val t.isLt = k0_pay5 (iblk m c 0 t) (iblk m c 2 t) (iblk m c 1 t) (iblk m c 3 t)
      (amaxAt m c (t.val - 1) (Nat.lt_of_le_of_lt (Nat.sub_le _ _) t.isLt)) := by
  obtain ⟨n, hn⟩ := t
  cases n with
  | zero => exact absurd rfl hz
  | succ n => exact rfl

/-! ## The pipeline's proof data -/

/-- The arrays as the region finds them; after the body each input's buffer at its block and, where the kernel stores them,
    the outputs at the scales and the codes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => scaleOut m c
    | ⟨5, _⟩ => codesOut m c
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = scaleOut m c := by dsimp only [dats]
theorem after0_5 (c : Dev nD) (t : Fin cfg0.N) : (dats m 0 c).after 5 t = codesOut m c := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The outputs are stored at the last point only: elsewhere their buffers are handed back as found. -/
theorem idle0_4 (t : Fin cfg0.N) (h : ¬cond0_2 (grid0.coords t)) : cfg0.idle 4 (grid0.coords t) = true := by
  show (!(k0_cond3 (grid0.coords t) == 1#1)) = true
  simpa using h
theorem idle0_5 (t : Fin cfg0.N) (h : ¬cond0_2 (grid0.coords t)) : cfg0.idle 5 (grid0.coords t) = true := by
  show (!(k0_cond3 (grid0.coords t) == 1#1)) = true
  simpa using h
theorem live0_4 (t : Fin cfg0.N) (h : cond0_2 (grid0.coords t)) : cfg0.idle 4 (grid0.coords t) = false := by
  show (!(k0_cond3 (grid0.coords t) == 1#1)) = false
  simpa using h
theorem live0_5 (t : Fin cfg0.N) (h : cond0_2 (grid0.coords t)) : cfg0.idle 5 (grid0.coords t) = false := by
  show (!(k0_cond3 (grid0.coords t) == 1#1)) = false
  simpa using h

set_option maxHeartbeats 4000000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 9 := lt_of_lt_of_eq t.isLt (show cfg0.N = 9 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  by_cases hz : t.val = 0
  · have hc0 : cond0_0 (grid0.coords t) := (hcond0_0 t).mpr (by omega)
    have hc1 : ¬cond0_1 (grid0.coords t) := fun h => by have := (hcond0_1 t).mp h; omega
    have hc2 : ¬cond0_2 (grid0.coords t) := fun h => by have := (hcond0_2 t).mp h; omega
    have hfl4 : (cfg0.win 4).flush t = false := Bool.eq_false_iff.mpr fun h => by have := (flush0_4 t).mp h; omega
    have hfl5 : (cfg0.win 5).flush t = false := Bool.eq_false_iff.mpr fun h => by have := (flush0_5 t).mp h; omega
    rw [PhiS_castSucc m c t, PhiS_zero m c _ _ hz, PhiA0_eq, amaxAt_first m c t hz]
    rw [Dat.leavesExact_idle _ 4 t (idle0_4 t hc2) hfl4, Dat.leavesExact_idle _ 5 t (idle0_5 t hc2) hfl5]
    iintro ⟨⟨⟨⟨%ds0, HS0⟩, ⟨%ds1, HS1⟩⟩, Hg⟩, Ho, ⟨%d0, H0⟩, ⟨%d1, H1⟩, ⟨%d2, H2⟩, ⟨%d3, H3⟩, H4, H5⟩
    have hfill : Filled m c t.val ds0 := by rw [hz]; exact filled_zero m c ds0
    iapply (run_A c (grid0.coords t) _ _ _ _ _ _ _ _ (ms0_4 t) (hs0_4 t) (ms0_5 t) (hs0_5 t) _ _ _ _ hc0 hc1 hc2 (iblk m c 0 t) (iblk m c 1 t) (iblk m c 2 t) (iblk m c 3 t) ds0 ds1 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · isplitl [HS0]
        · iexists _; isplitr; swap; · iexact HS0
          ipureintro; exact filled_succ m c t ds0 hfill
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc0 : ¬cond0_0 (grid0.coords t) := fun h => by have := (hcond0_0 t).mp h; omega
    have hc1 : cond0_1 (grid0.coords t) := (hcond0_1 t).mpr (by omega)
    by_cases h2 : t.val % 9 = 8
    · have hc2 : cond0_2 (grid0.coords t) := (hcond0_2 t).mpr h2
      rw [PhiS_castSucc m c t, PhiS_pos m c _ _ hz, amaxAt_next m c t hz]
      have h8 : t.val = 8 := by omega
      rw [show (dats m 0 c).leavesExact 4 t = owns (c : Thread nD τ) (ms0_4 t) fullShare ((dats m 0 c).after 4 t) from by
          unfold Dat.leavesExact; rw [live0_4 t hc2], after0_4]
      rw [show (dats m 0 c).leavesExact 5 t = owns (c : Thread nD τ) (ms0_5 t) fullShare ((dats m 0 c).after 5 t) from by
          unfold Dat.leavesExact; rw [live0_5 t hc2], after0_5]
      iintro ⟨⟨⟨⟨%ds0, %hfill, HS0⟩, HS1⟩, Hg⟩, Ho, ⟨%d0, H0⟩, ⟨%d1, H1⟩, ⟨%d2, H2⟩, ⟨%d3, H3⟩, H4, H5⟩
      have hw : putBlock (grid0.coords t) ds0 (k0_pay2 (iblk m c 0 t) (iblk m c 2 t) (iblk m c 1 t) (iblk m c 3 t)) = wide m c :=
        filled_last m c _ (by have := filled_succ m c t ds0 hfill; rw [h8] at this; exact this)
      have hfull : Filled m c (t.val + 1) (wide m c) := fun _ _ => rfl
      have ha : k0_pay5 (iblk m c 0 t) (iblk m c 2 t) (iblk m c 1 t) (iblk m c 3 t) (amaxAt m c (t.val - 1) (Nat.lt_of_le_of_lt (Nat.sub_le _ _) t.isLt)) = amaxAt m c 8 eight_lt := by
        rw [← amaxAt_next m c t hz]; congr 1
      iapply (run_C c (grid0.coords t) _ _ _ _ _ _ _ _ _ _ _ _ _ _ _ _ hc0 hc1 hc2 (iblk m c 0 t) (iblk m c 1 t) (iblk m c 2 t) (iblk m c 3 t) ds0 _ Set.univ _)
      isplitl [H0]; · iexact H0
      isplitl [H1]; · iexact H1
      isplitl [H2]; · iexact H2
      isplitl [H3]; · iexact H3
      isplitl [H4]; · icases H4 with ⟨%d4, H4⟩; iexists _; iexact H4
      isplitl [H5]; · icases H5 with ⟨%d5, H5⟩; iexists _; iexact H5
      isplitl [HS0]; · iexact HS0
      isplitl [HS1]; · iexact HS1
      rw [hw, ha]
      iintro ⟨H0, H1, H2, H3, H4, H5, HS0, HS1⟩
      isplitl [HS0 HS1 Hg]
      · isplitl [HS0 HS1]
        · isplitl [HS0]
          · iexists _; isplitr; swap; · iexact HS0
            ipureintro; exact hfull
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬cond0_2 (grid0.coords t) := fun h => h2 ((hcond0_2 t).mp h)
      have hfl4 : (cfg0.win 4).flush t = false := Bool.eq_false_iff.mpr fun h => h2 ((flush0_4 t).mp h)
      have hfl5 : (cfg0.win 5).flush t = false := Bool.eq_false_iff.mpr fun h => h2 ((flush0_5 t).mp h)
      rw [PhiS_castSucc m c t, PhiS_pos m c _ _ hz, amaxAt_next m c t hz]
      rw [Dat.leavesExact_idle _ 4 t (idle0_4 t hc2) hfl4, Dat.leavesExact_idle _ 5 t (idle0_5 t hc2) hfl5]
      iintro ⟨⟨⟨⟨%ds0, %hfill, HS0⟩, HS1⟩, Hg⟩, Ho, ⟨%d0, H0⟩, ⟨%d1, H1⟩, ⟨%d2, H2⟩, ⟨%d3, H3⟩, H4, H5⟩
      iapply (run_B c (grid0.coords t) _ _ _ _ _ _ _ _ (ms0_4 t) (hs0_4 t) (ms0_5 t) (hs0_5 t) _ _ _ _ hc0 hc1 hc2 (iblk m c 0 t) (iblk m c 1 t) (iblk m c 2 t) (iblk m c 3 t) ds0 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]
          · iexists _; isplitr; swap; · iexact HS0
            ipureintro; exact filled_succ m c t ds0 hfill
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · icases HS0 with ⟨%d, -, HS0⟩; iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 9 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends, with every array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every run ends, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.IdealRuns.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, e0]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 9 = 8 :=
  (fun t => by
    have ht : t.val < 9 := Nat.lt_of_lt_of_eq t.isLt N_0
    have e0 : (grid0.coords t 0).val = t.val / 1 % 9 := Pipeline.Grid.coords_val t 0 (by decide) rfl
    simp only [cond0_2, k0_cond3, e0]
    word_cmp
   : ∀ t : Fin grid0.N, cond0_2 (grid0.coords t) ↔ t.val % 9 = 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x5120 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x768 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x6912 .fp8e4m3 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S128x6912 .f32 := Memref.whole cc0_scratch0
abbrev scM0_1 : Memref sig .tc .vmem S128x1 .f32 := Memref.whole cc0_scratch1
/-- The scratch `arg8` the kernel carries between points, as a view: what it holds is stated through it. -/
abbrev VS0_1 : View sig .tc .vmem S128x1 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The wide scratch `d7` with the product block `b` of grid point `i` stored over its 768 columns. -/
def putBlock (i : grid0.Coords) (d7 : Vec F S128x6912 .f32) (b : Vec F S128x768 .f32) : Vec F S128x6912 .f32 :=
  VecWindow.put (s := S128x6912) d7 (k0_off1 i) S128x768.size b

/-- The body at the first grid point: the product block goes into the wide scratch, its row maxima into the narrow one. -/
theorem run_A (c : Dev nD) (i : grid0.Coords)
    (arg1 : Memref sig .tc .vmem S128x5120 .fp8e4m3) (harg1 : arg1.IsWhole)
    (arg2 : Memref sig .tc .vmem S128x1 .f32) (harg2 : arg2.IsWhole)
    (arg3 : Memref sig .tc .vmem S5120x768 .fp8e4m3) (harg3 : arg3.IsWhole)
    (arg4 : Memref sig .tc .vmem S1x768 .f32) (harg4 : arg4.IsWhole)
    (arg5 : Memref sig .tc .vmem S128x1 .f32) (harg5 : arg5.IsWhole)
    (arg6 : Memref sig .tc .vmem S128x6912 .fp8e4m3) (harg6 : arg6.IsWhole)
    (arg7 : Memref sig .tc .vmem S128x6912 .f32) (harg7 : arg7.IsWhole)
    (arg8 : Memref sig .tc .vmem S128x1 .f32) (harg8 : arg8.IsWhole)
    (hc0 : cond0_0 i) (hc1 : ¬cond0_1 i) (hc2 : ¬cond0_2 i)
    (x0 : Vec F S128x5120 .fp8e4m3) (x1 : Vec F S128x1 .f32) (x2 : Vec F S5120x768 .fp8e4m3) (x3 : Vec F S1x768 .f32)
    (d7 : Vec F S128x6912 .f32) (d8 : Vec F S128x1 .f32) (E : Set ℕ) (K : PUnit → sProp 𝕄) :
    iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg7 fullShare d7 ∗ owns (c : Thread nD τ) arg8 fullShare d8
            ∗ (iprop(owns (c : Thread nD τ) arg1 fullShare x0 ∗ owns (c : Thread nD τ) arg2 fullShare x1
            ∗ owns (c : Thread nD τ) arg3 fullShare x2 ∗ owns (c : Thread nD τ) arg4 fullShare x3
                ∗ owns (c : Thread nD τ) arg7 fullShare (putBlock i d7 (k0_pay2 x0 x2 x1 x3))
                ∗ owns (c : Thread nD τ) arg8 fullShare (k0_pay4 x0 x2 x1 x3)) -∗ K ⟨⟩))
      ⊢ wp frame (wpE (defs₀ (F := F)) Variants.none c none) E (cc0__linear_requant_kernel i arg1 harg1 arg2 harg2 arg3 harg3 arg4 harg4 arg5 harg5 arg6 harg6 arg7 harg7 arg8 harg8) K := by
  simp only [cc0__linear_requant_kernel_eq_skeleton]; unfold cc0__linear_requant_kernel_skel
  unfold owns
  iintro ⟨⟨%f0, %hf0, H0⟩, ⟨%f1, %hf1, H1⟩, ⟨%f2, %hf2, H2⟩, ⟨%f3, %hf3, H3⟩, ⟨%f7, %hf7, HS0⟩, ⟨%f8, %hf8, HS1⟩, Hk⟩
  obtain rfl := harg1.eq_unread hf0; obtain rfl := harg2.eq_unread hf1; obtain rfl := harg3.eq_unread hf2
  obtain rfl := harg4.eq_unread hf3; obtain rfl := harg8.eq_unread hf8; obtain rfl := harg7.eq_unread hf7
  sl_exec (disch := first | sl_exact hc0 | sl_exact hc1 | sl_exact hc2)
  sl_step
  have e1 : View.readAt (Elt F) arg1.view (Rect.unit ![0, 0] ![128, 5120] inb_S128x5120_S128x5120_0_0).toLoadRect (harg1.unread x0) = x0 :=
    (View.readAt_full (s := S128x5120) _ _ _).trans (harg1.read_unread _)
  have e2 : View.readAt (Elt F) arg2.view (Rect.unit ![0, 0] ![128, 1] inb_S128x1_S128x1_0_0).toLoadRect (harg2.unread x1) = x1 :=
    (View.readAt_full (s := S128x1) _ _ _).trans (harg2.read_unread _)
  have e3 : View.readAt (Elt F) arg3.view (Rect.unit ![0, 0] ![5120, 768] inb_S5120x768_S5120x768_0_0).toLoadRect (harg3.unread x2) = x2 :=
    (View.readAt_full (s := S5120x768) _ _ _).trans (harg3.read_unread _)
  have e4 : View.readAt (Elt F) arg4.view (Rect.unit ![0, 0] ![1, 768] inb_S1x768_S1x768_0_0).toLoadRect (harg4.unread x3) = x3 :=
    (View.readAt_full (s := S1x768) _ _ _).trans (harg4.read_unread _)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; swap; · iexact HS0
    ipureintro
    rw [View.read_writes_cons_put _ _ _ _ _ rfl, View.writes_nil, harg7.read_unread, e1, e2, e3, e4]; rfl
  iexists _; isplitr; swap; · iexact HS1
  ipureintro
  rw [e1, e2, e3, e4]; exact View.read_writes_full (s := S128x1) _ _ _ _ _

/-- The body at a point strictly between the first and the last: the block into the wide scratch, the running row maxima in the narrow one. -/
theorem run_B (c : Dev nD) (i : grid0.Coords)
    (arg1 : Memref sig .tc .vmem S128x5120 .fp8e4m3) (harg1 : arg1.IsWhole)
    (arg2 : Memref sig .tc .vmem S128x1 .f32) (harg2 : arg2.IsWhole)
    (arg3 : Memref sig .tc .vmem S5120x768 .fp8e4m3) (harg3 : arg3.IsWhole)
    (arg4 : Memref sig .tc .vmem S1x768 .f32) (harg4 : arg4.IsWhole)
    (arg5 : Memref sig .tc .vmem S128x1 .f32) (harg5 : arg5.IsWhole)
    (arg6 : Memref sig .tc .vmem S128x6912 .fp8e4m3) (harg6 : arg6.IsWhole)
    (arg7 : Memref sig .tc .vmem S128x6912 .f32) (harg7 : arg7.IsWhole)
    (arg8 : Memref sig .tc .vmem S128x1 .f32) (harg8 : arg8.IsWhole)
    (hc0 : ¬cond0_0 i) (hc1 : cond0_1 i) (hc2 : ¬cond0_2 i)
    (x0 : Vec F S128x5120 .fp8e4m3) (x1 : Vec F S128x1 .f32) (x2 : Vec F S5120x768 .fp8e4m3) (x3 : Vec F S1x768 .f32)
    (d7 : Vec F S128x6912 .f32) (d8 : Vec F S128x1 .f32) (E : Set ℕ) (K : PUnit → sProp 𝕄) :
    iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg7 fullShare d7 ∗ owns (c : Thread nD τ) arg8 fullShare d8
            ∗ (iprop(owns (c : Thread nD τ) arg1 fullShare x0 ∗ owns (c : Thread nD τ) arg2 fullShare x1
            ∗ owns (c : Thread nD τ) arg3 fullShare x2 ∗ owns (c : Thread nD τ) arg4 fullShare x3
                ∗ owns (c : Thread nD τ) arg7 fullShare (putBlock i d7 (k0_pay2 x0 x2 x1 x3))
                ∗ owns (c : Thread nD τ) arg8 fullShare (k0_pay5 x0 x2 x1 x3 d8)) -∗ K ⟨⟩))
      ⊢ wp frame (wpE (defs₀ (F := F)) Variants.none c none) E (cc0__linear_requant_kernel i arg1 harg1 arg2 harg2 arg3 harg3 arg4 harg4 arg5 harg5 arg6 harg6 arg7 harg7 arg8 harg8) K := by
  simp only [cc0__linear_requant_kernel_eq_skeleton]; unfold cc0__linear_requant_kernel_skel
  unfold owns
  iintro ⟨⟨%f0, %hf0, H0⟩, ⟨%f1, %hf1, H1⟩, ⟨%f2, %hf2, H2⟩, ⟨%f3, %hf3, H3⟩, ⟨%f7, %hf7, HS0⟩, ⟨%f8, %hf8, HS1⟩, Hk⟩
  obtain rfl := harg1.eq_unread hf0; obtain rfl := harg2.eq_unread hf1; obtain rfl := harg3.eq_unread hf2
  obtain rfl := harg4.eq_unread hf3; obtain rfl := harg8.eq_unread hf8; obtain rfl := harg7.eq_unread hf7
  sl_exec (disch := first | sl_exact hc0 | sl_exact hc1 | sl_exact hc2)
  sl_step
  have e1 : View.readAt (Elt F) arg1.view (Rect.unit ![0, 0] ![128, 5120] inb_S128x5120_S128x5120_0_0).toLoadRect (harg1.unread x0) = x0 :=
    (View.readAt_full (s := S128x5120) _ _ _).trans (harg1.read_unread _)
  have e2 : View.readAt (Elt F) arg2.view (Rect.unit ![0, 0] ![128, 1] inb_S128x1_S128x1_0_0).toLoadRect (harg2.unread x1) = x1 :=
    (View.readAt_full (s := S128x1) _ _ _).trans (harg2.read_unread _)
  have e3 : View.readAt (Elt F) arg3.view (Rect.unit ![0, 0] ![5120, 768] inb_S5120x768_S5120x768_0_0).toLoadRect (harg3.unread x2) = x2 :=
    (View.readAt_full (s := S5120x768) _ _ _).trans (harg3.read_unread _)
  have e4 : View.readAt (Elt F) arg4.view (Rect.unit ![0, 0] ![1, 768] inb_S1x768_S1x768_0_0).toLoadRect (harg4.unread x3) = x3 :=
    (View.readAt_full (s := S1x768) _ _ _).trans (harg4.read_unread _)
  have e8 : View.readAt (Elt F) arg8.view (Rect.unit ![0, 0] ![128, 1] inb_S128x1_S128x1_0_0).toLoadRect (harg8.unread d8) = d8 :=
    (View.readAt_full (s := S128x1) _ _ _).trans (harg8.read_unread _)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; swap; · iexact HS0
    ipureintro
    rw [View.read_writes_cons_put _ _ _ _ _ rfl, View.writes_nil, harg7.read_unread, e1, e2, e3, e4]; rfl
  iexists _; isplitr; swap; · iexact HS1
  ipureintro
  rw [e1, e2, e3, e4, e8]; exact View.read_writes_full (s := S128x1) _ _ _ _ _

/-- The body at the last point: the block and the row maxima as before, then both outputs from the finished scratch. -/
theorem run_C (c : Dev nD) (i : grid0.Coords)
    (arg1 : Memref sig .tc .vmem S128x5120 .fp8e4m3) (harg1 : arg1.IsWhole)
    (arg2 : Memref sig .tc .vmem S128x1 .f32) (harg2 : arg2.IsWhole)
    (arg3 : Memref sig .tc .vmem S5120x768 .fp8e4m3) (harg3 : arg3.IsWhole)
    (arg4 : Memref sig .tc .vmem S1x768 .f32) (harg4 : arg4.IsWhole)
    (arg5 : Memref sig .tc .vmem S128x1 .f32) (harg5 : arg5.IsWhole)
    (arg6 : Memref sig .tc .vmem S128x6912 .fp8e4m3) (harg6 : arg6.IsWhole)
    (arg7 : Memref sig .tc .vmem S128x6912 .f32) (harg7 : arg7.IsWhole)
    (arg8 : Memref sig .tc .vmem S128x1 .f32) (harg8 : arg8.IsWhole)
    (hc0 : ¬cond0_0 i) (hc1 : cond0_1 i) (hc2 : cond0_2 i)
    (x0 : Vec F S128x5120 .fp8e4m3) (x1 : Vec F S128x1 .f32) (x2 : Vec F S5120x768 .fp8e4m3) (x3 : Vec F S1x768 .f32)
    (d7 : Vec F S128x6912 .f32) (d8 : Vec F S128x1 .f32) (E : Set ℕ) (K : PUnit → sProp 𝕄) :
    iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ owns (c : Thread nD τ) arg7 fullShare d7 ∗ owns (c : Thread nD τ) arg8 fullShare d8
            ∗ (iprop(owns (c : Thread nD τ) arg1 fullShare x0 ∗ owns (c : Thread nD τ) arg2 fullShare x1
            ∗ owns (c : Thread nD τ) arg3 fullShare x2 ∗ owns (c : Thread nD τ) arg4 fullShare x3
                ∗ owns (c : Thread nD τ) arg5 fullShare (k0_pay8 (k0_pay5 x0 x2 x1 x3 d8))
                ∗ owns (c : Thread nD τ) arg6 fullShare (k0_pay6 (putBlock i d7 (k0_pay2 x0 x2 x1 x3)) (k0_pay9 (k0_pay5 x0 x2 x1 x3 d8)))
                ∗ owns (c : Thread nD τ) arg7 fullShare (putBlock i d7 (k0_pay2 x0 x2 x1 x3))
                ∗ owns (c : Thread nD τ) arg8 fullShare (k0_pay5 x0 x2 x1 x3 d8)) -∗ K ⟨⟩))
      ⊢ wp frame (wpE (defs₀ (F := F)) Variants.none c none) E (cc0__linear_requant_kernel i arg1 harg1 arg2 harg2 arg3 harg3 arg4 harg4 arg5 harg5 arg6 harg6 arg7 harg7 arg8 harg8) K := by
  simp only [cc0__linear_requant_kernel_eq_skeleton]; unfold cc0__linear_requant_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f7, %hf7, HS0⟩, ⟨%f8, %hf8, HS1⟩, Hk⟩
  obtain rfl := harg1.eq_unread hf0; obtain rfl := harg2.eq_unread hf1; obtain rfl := harg3.eq_unread hf2
  obtain rfl := harg4.eq_unread hf3; obtain rfl := harg8.eq_unread hf8; obtain rfl := harg7.eq_unread hf7
  sl_exec (disch := first | sl_exact hc0 | sl_exact hc1 | sl_exact hc2)
  sl_step
  have e1 : View.readAt (Elt F) arg1.view (Rect.unit ![0, 0] ![128, 5120] inb_S128x5120_S128x5120_0_0).toLoadRect (harg1.unread x0) = x0 :=
    (View.readAt_full (s := S128x5120) _ _ _).trans (harg1.read_unread _)
  have e2 : View.readAt (Elt F) arg2.view (Rect.unit ![0, 0] ![128, 1] inb_S128x1_S128x1_0_0).toLoadRect (harg2.unread x1) = x1 :=
    (View.readAt_full (s := S128x1) _ _ _).trans (harg2.read_unread _)
  have e3 : View.readAt (Elt F) arg3.view (Rect.unit ![0, 0] ![5120, 768] inb_S5120x768_S5120x768_0_0).toLoadRect (harg3.unread x2) = x2 :=
    (View.readAt_full (s := S5120x768) _ _ _).trans (harg3.read_unread _)
  have e4 : View.readAt (Elt F) arg4.view (Rect.unit ![0, 0] ![1, 768] inb_S1x768_S1x768_0_0).toLoadRect (harg4.unread x3) = x3 :=
    (View.readAt_full (s := S1x768) _ _ _).trans (harg4.read_unread _)
  have e8 : View.readAt (Elt F) arg8.view (Rect.unit ![0, 0] ![128, 1] inb_S128x1_S128x1_0_0).toLoadRect (harg8.unread d8) = d8 :=
    (View.readAt_full (s := S128x1) _ _ _).trans (harg8.read_unread _)
  have e7 : arg7.view.read (Elt F) (arg7.view.writes (Elt F) (harg7.unread d7)
      (run_C.sl.HS0_1 c i arg1 harg1 arg2 harg2 arg3 harg3 arg4 harg4 x0 x1 x2 x3)) = putBlock i d7 (k0_pay2 x0 x2 x1 x3) := by
    unfold run_C.sl.HS0_1
    rw [View.read_writes_cons_put _ _ _ _ _ rfl, View.writes_nil, harg7.read_unread, e1, e2, e3, e4]; rfl
  have e29 : run_C.sl.v29 c arg1 harg1 arg2 harg2 arg3 harg3 arg4 harg4 arg8 harg8 x0 x1 x2 x3 d8 = k0_pay5 x0 x2 x1 x3 d8 := by
    unfold run_C.sl.v29 run_C.sl.HS1_1
    rw [e1, e2, e3, e4, e8]; exact View.readCov_full (s := S128x1) _ _ _ _ _
  have e65 : run_C.sl.v65 c i arg1 harg1 arg2 harg2 arg3 harg3 arg4 harg4 arg7 harg7 x0 x1 x2 x3 d7 = putBlock i d7 (k0_pay2 x0 x2 x1 x3) := by
    unfold run_C.sl.v65
    exact (View.readAt_full (s := S128x6912) _ _ _).trans e7
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    rw [e29]; exact View.read_writes_full (s := S128x1) _ _ _ _ _
  isplitl [H5]
  · iexists _; isplitr; swap; · iexact H5
    ipureintro
    rw [e29, e65]; exact View.read_writes_full (s := S128x6912) _ _ _ _ _
  isplitl [HS0]
  · iexists _; isplitr; swap; · iexact HS0
    ipureintro
    exact e7
  iexists _; isplitr; swap; · iexact HS1
  ipureintro
  unfold run_C.sl.HS1_1
  rw [e1, e2, e3, e4, e8]; exact View.read_writes_full (s := S128x1) _ _ _ _ _

end Cert.KernelIdeal.Gen

end
-- ==== Proof.IdealFrame.lean ====
module

public import proofs.«01_k».proof.Proof.IdealRuns
public import Idealize.ShloMosaic.Lib.ValueIdxCore
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch and the outputs hold -/

/-- The product block of grid point `t`: 128 rows by the point's 768 columns. -/
def yBlock (c : Dev nD) (t : Fin cfg0.N) : Vec F S128x768 .f32 :=
  k0_pay2 (iblk m c 0 t) (iblk m c 2 t) (iblk m c 1 t) (iblk m c 3 t)

/-- The running row maxima after point `n`. -/
def amaxAt (c : Dev nD) : (n : ℕ) → n < cfg0.N → Vec F S128x1 .f32
  | 0, h => k0_pay4 (iblk m c 0 ⟨0, h⟩) (iblk m c 2 ⟨0, h⟩) (iblk m c 1 ⟨0, h⟩) (iblk m c 3 ⟨0, h⟩)
  | n + 1, h => k0_pay5 (iblk m c 0 ⟨n + 1, h⟩) (iblk m c 2 ⟨n + 1, h⟩) (iblk m c 1 ⟨n + 1, h⟩) (iblk m c 3 ⟨n + 1, h⟩)
      (amaxAt c n (Nat.lt_of_succ_lt h))

/-- The product, all 6912 columns: column `x 1` comes from the block of point `x 1 / 768`. -/
def wide (c : Dev nD) : Vec F S128x6912 .f32 := fun x =>
  yBlock m c ⟨(x 1).val / 768, by
      have h : (x 1).val < 6912 := (x 1).isLt
      rw [show cfg0.N = 9 from N_0]; omega⟩
    (ValueIdx.ix2 (n0 := 128) (n1 := 768) (x 0) ⟨(x 1).val % 768, Nat.mod_lt _ (by decide)⟩)

/-- The first `n` blocks of columns of `d` are those of the product. -/
def Filled (c : Dev nD) (n : ℕ) (d : Vec F S128x6912 .f32) : Prop :=
  ∀ x : S128x6912.Idx, (x 1).val < 768 * n → d x = wide m c x

theorem filled_zero (c : Dev nD) (d : Vec F S128x6912 .f32) : Filled m c 0 d := fun x h => absurd h (by omega)

/-- The columns of point `t` start at `768 * t`. -/
theorem off1_closed : ∀ t : Fin cfg0.N, k0_off1 (grid0.coords t) = ![0, 768 * t.val] :=
  (by decide +kernel : ∀ t : Fin grid0.N, k0_off1 (grid0.coords t) = ![0, 768 * t.val])

/-- Storing the block of point `t` extends the filled part by that block. -/
theorem filled_succ (c : Dev nD) (t : Fin cfg0.N) (d : Vec F S128x6912 .f32) (h : Filled m c t.val d) :
    Filled m c (t.val + 1) (putBlock (grid0.coords t) d (yBlock m c t)) := by
  intro x hx
  have ht : t.val < 9 := lt_of_lt_of_eq t.isLt N_0
  unfold putBlock VecWindow.put
  by_cases hc : 768 * t.val ≤ (x 1).val
  · have hin : ∀ a, k0_off1 (grid0.coords t) a ≤ (x a).val ∧ (x a).val < k0_off1 (grid0.coords t) a + S128x768.size a := by
      rw [off1_closed t]
      intro a
      match a with
      | ⟨0, _⟩ => exact ⟨Nat.zero_le _, by have : (x 0).val < 128 := (x 0).isLt; show (x 0).val < 0 + 128; omega⟩
      | ⟨1, _⟩ => exact ⟨hc, by show (x 1).val < 768 * t.val + 768; omega⟩
    rw [dif_pos hin]
    have e : (x 1).val / 768 = t.val := by omega
    unfold wide
    have et : (⟨(x 1).val / 768, by
      have h : (x 1).val < 6912 := (x 1).isLt
      rw [show cfg0.N = 9 from N_0]; omega⟩ : Fin cfg0.N) = t := Fin.ext e
    rw [et]
    refine congrArg (yBlock m c t) (funext fun a => ?_)
    match a with
    | ⟨0, _⟩ => exact Fin.ext (by
        show (x 0).val - k0_off1 (grid0.coords t) 0 = (x 0).val
        rw [off1_closed t]; rfl)
    | ⟨1, _⟩ => exact Fin.ext (by
        show (x 1).val - k0_off1 (grid0.coords t) 1 = (x 1).val % 768
        rw [off1_closed t]; show (x 1).val - 768 * t.val = _; omega)
  · have hout : ¬ ∀ a, k0_off1 (grid0.coords t) a ≤ (x a).val ∧ (x a).val < k0_off1 (grid0.coords t) a + S128x768.size a := by
      intro hh; have := (hh 1).1; rw [off1_closed t] at this; exact hc this
    rw [dif_neg hout]
    exact h x (by omega)

/-- After the last point the wide scratch is the product. -/
theorem filled_last (c : Dev nD) (d : Vec F S128x6912 .f32) (h : Filled m c 9 d) : d = wide m c :=
  funext fun x => h x (by have : (x 1).val < 6912 := (x 1).isLt; omega)

theorem eight_lt : 8 < cfg0.N := by rw [show cfg0.N = 9 from N_0]; omega

/-- The row scales the kernel leaves. -/
def scaleOut (c : Dev nD) : Vec F S128x1 .f32 := k0_pay8 (amaxAt m c 8 eight_lt)

/-- The codes the kernel leaves. -/
def codesOut (c : Dev nD) : Vec F S128x6912 .fp8e4m3 := k0_pay6 (wide m c) (k0_pay9 (amaxAt m c 8 eight_lt))

/-! ## The invariant between points -/

/-- Before the first point the scratch holds anything; after point `n` the wide scratch holds the first `n + 1` blocks of
    the product and the narrow one the row maxima so far. -/
def PhiS (c : Dev nD) : (n : ℕ) → n ≤ cfg0.N → sProp 𝕄
  | 0, _ => Pipeline.ΦA spec0 c
  | n + 1, hn => iprop(iprop((∃ d, ⌜Filled m c (n + 1) d⌝ ∗ owns (c : Thread nD τ) scM0_0 fullShare d)
      ∗ owns (c : Thread nD τ) scM0_1 fullShare (amaxAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, ⌜Filled m c (n + 1) d⌝ ∗ owns (c : Thread nD τ) scM0_0 fullShare d)
      ∗ owns (c : Thread nD τ) scM0_1 fullShare (amaxAt m c n hn)) ∗ (∃ r, prngReg c r)) := rfl

theorem PhiS_pos (c : Dev nD) (n : ℕ) (h : n ≤ cfg0.N) (hz : n ≠ 0) :
    PhiS m c n h = iprop(iprop((∃ d, ⌜Filled m c n d⌝ ∗ owns (c : Thread nD τ) scM0_0 fullShare d)
      ∗ owns (c : Thread nD τ) scM0_1 fullShare (amaxAt m c (n - 1) (by omega))) ∗ (∃ r, prngReg c r)) := by
  cases n with
  | zero => exact absurd rfl hz
  | succ n => rfl

theorem amaxAt_first (c : Dev nD) (t : Fin cfg0.N) (hz : t.val = 0) :
    amaxAt m c t.val t.isLt = k0_pay4 (iblk m c 0 t) (iblk m c 2 t) (iblk m c 1 t) (iblk m c 3 t) := by
  obtain ⟨n, hn⟩ := t
  cases n with
  | zero => exact rfl
  | succ n => exact absurd hz (Nat.succ_ne_zero n)

theorem amaxAt_next (c : Dev nD) (t : Fin cfg0.N) (hz : t.val ≠ 0) :
    amaxAt m c t.val t.isLt = k0_pay5 (iblk m c 0 t) (iblk m c 2 t) (iblk m c 1 t) (iblk m c 3 t)
      (amaxAt m c (t.val - 1) (Nat.lt_of_le_of_lt (Nat.sub_le _ _) t.isLt)) := by
  obtain ⟨n, hn⟩ := t
  cases n with
  | zero => exact absurd rfl hz
  | succ n => exact rfl

/-! ## The pipeline's proof data -/

/-- The arrays as the region finds them; after the body each input's buffer at its block and, where the kernel stores them,
    the outputs at the scales and the codes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => scaleOut m c
    | ⟨5, _⟩ => codesOut m c
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = scaleOut m c := by dsimp only [dats]
theorem after0_5 (c : Dev nD) (t : Fin cfg0.N) : (dats m 0 c).after 5 t = codesOut m c := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The outputs are stored at the last point only: elsewhere their buffers are handed back as found. -/
theorem idle0_4 (t : Fin cfg0.N) (h : ¬cond0_2 (grid0.coords t)) : cfg0.idle 4 (grid0.coords t) = true := by
  show (!(k0_cond3 (grid0.coords t) == 1#1)) = true
  simpa using h
theorem idle0_5 (t : Fin cfg0.N) (h : ¬cond0_2 (grid0.coords t)) : cfg0.idle 5 (grid0.coords t) = true := by
  show (!(k0_cond3 (grid0.coords t) == 1#1)) = true
  simpa using h
theorem live0_4 (t : Fin cfg0.N) (h : cond0_2 (grid0.coords t)) : cfg0.idle 4 (grid0.coords t) = false := by
  show (!(k0_cond3 (grid0.coords t) == 1#1)) = false
  simpa using h
theorem live0_5 (t : Fin cfg0.N) (h : cond0_2 (grid0.coords t)) : cfg0.idle 5 (grid0.coords t) = false := by
  show (!(k0_cond3 (grid0.coords t) == 1#1)) = false
  simpa using h

set_option maxHeartbeats 4000000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 9 := lt_of_lt_of_eq t.isLt (show cfg0.N = 9 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  by_cases hz : t.val = 0
  · have hc0 : cond0_0 (grid0.coords t) := (hcond0_0 t).mpr (by omega)
    have hc1 : ¬cond0_1 (grid0.coords t) := fun h => by have := (hcond0_1 t).mp h; omega
    have hc2 : ¬cond0_2 (grid0.coords t) := fun h => by have := (hcond0_2 t).mp h; omega
    have hfl4 : (cfg0.win 4).flush t = false := Bool.eq_false_iff.mpr fun h => by have := (flush0_4 t).mp h; omega
    have hfl5 : (cfg0.win 5).flush t = false := Bool.eq_false_iff.mpr fun h => by have := (flush0_5 t).mp h; omega
    rw [PhiS_castSucc m c t, PhiS_zero m c _ _ hz, PhiA0_eq, amaxAt_first m c t hz]
    rw [Dat.leavesExact_idle _ 4 t (idle0_4 t hc2) hfl4, Dat.leavesExact_idle _ 5 t (idle0_5 t hc2) hfl5]
    iintro ⟨⟨⟨⟨%ds0, HS0⟩, ⟨%ds1, HS1⟩⟩, Hg⟩, Ho, ⟨%d0, H0⟩, ⟨%d1, H1⟩, ⟨%d2, H2⟩, ⟨%d3, H3⟩, H4, H5⟩
    have hfill : Filled m c t.val ds0 := by rw [hz]; exact filled_zero m c ds0
    iapply (run_A c (grid0.coords t) _ _ _ _ _ _ _ _ (ms0_4 t) (hs0_4 t) (ms0_5 t) (hs0_5 t) _ _ _ _ hc0 hc1 hc2 (iblk m c 0 t) (iblk m c 1 t) (iblk m c 2 t) (iblk m c 3 t) ds0 ds1 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · isplitl [HS0]
        · iexists _; isplitr; swap; · iexact HS0
          ipureintro; exact filled_succ m c t ds0 hfill
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc0 : ¬cond0_0 (grid0.coords t) := fun h => by have := (hcond0_0 t).mp h; omega
    have hc1 : cond0_1 (grid0.coords t) := (hcond0_1 t).mpr (by omega)
    by_cases h2 : t.val % 9 = 8
    · have hc2 : cond0_2 (grid0.coords t) := (hcond0_2 t).mpr h2
      rw [PhiS_castSucc m c t, PhiS_pos m c _ _ hz, amaxAt_next m c t hz]
      have h8 : t.val = 8 := by omega
      rw [show (dats m 0 c).leavesExact 4 t = owns (c : Thread nD τ) (ms0_4 t) fullShare ((dats m 0 c).after 4 t) from by
          unfold Dat.leavesExact; rw [live0_4 t hc2], after0_4]
      rw [show (dats m 0 c).leavesExact 5 t = owns (c : Thread nD τ) (ms0_5 t) fullShare ((dats m 0 c).after 5 t) from by
          unfold Dat.leavesExact; rw [live0_5 t hc2], after0_5]
      iintro ⟨⟨⟨⟨%ds0, %hfill, HS0⟩, HS1⟩, Hg⟩, Ho, ⟨%d0, H0⟩, ⟨%d1, H1⟩, ⟨%d2, H2⟩, ⟨%d3, H3⟩, H4, H5⟩
      have hw : putBlock (grid0.coords t) ds0 (k0_pay2 (iblk m c 0 t) (iblk m c 2 t) (iblk m c 1 t) (iblk m c 3 t)) = wide m c :=
        filled_last m c _ (by have := filled_succ m c t ds0 hfill; rw [h8] at this; exact this)
      have hfull : Filled m c (t.val + 1) (wide m c) := fun _ _ => rfl
      have ha : k0_pay5 (iblk m c 0 t) (iblk m c 2 t) (iblk m c 1 t) (iblk m c 3 t) (amaxAt m c (t.val - 1) (Nat.lt_of_le_of_lt (Nat.sub_le _ _) t.isLt)) = amaxAt m c 8 eight_lt := by
        rw [← amaxAt_next m c t hz]; congr 1
      iapply (run_C c (grid0.coords t) _ _ _ _ _ _ _ _ _ _ _ _ _ _ _ _ hc0 hc1 hc2 (iblk m c 0 t) (iblk m c 1 t) (iblk m c 2 t) (iblk m c 3 t) ds0 _ Set.univ _)
      isplitl [H0]; · iexact H0
      isplitl [H1]; · iexact H1
      isplitl [H2]; · iexact H2
      isplitl [H3]; · iexact H3
      isplitl [H4]; · icases H4 with ⟨%d4, H4⟩; iexists _; iexact H4
      isplitl [H5]; · icases H5 with ⟨%d5, H5⟩; iexists _; iexact H5
      isplitl [HS0]; · iexact HS0
      isplitl [HS1]; · iexact HS1
      rw [hw, ha]
      iintro ⟨H0, H1, H2, H3, H4, H5, HS0, HS1⟩
      isplitl [HS0 HS1 Hg]
      · isplitl [HS0 HS1]
        · isplitl [HS0]
          · iexists _; isplitr; swap; · iexact HS0
            ipureintro; exact hfull
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬cond0_2 (grid0.coords t) := fun h => h2 ((hcond0_2 t).mp h)
      have hfl4 : (cfg0.win 4).flush t = false := Bool.eq_false_iff.mpr fun h => h2 ((flush0_4 t).mp h)
      have hfl5 : (cfg0.win 5).flush t = false := Bool.eq_false_iff.mpr fun h => h2 ((flush0_5 t).mp h)
      rw [PhiS_castSucc m c t, PhiS_pos m c _ _ hz, amaxAt_next m c t hz]
      rw [Dat.leavesExact_idle _ 4 t (idle0_4 t hc2) hfl4, Dat.leavesExact_idle _ 5 t (idle0_5 t hc2) hfl5]
      iintro ⟨⟨⟨⟨%ds0, %hfill, HS0⟩, HS1⟩, Hg⟩, Ho, ⟨%d0, H0⟩, ⟨%d1, H1⟩, ⟨%d2, H2⟩, ⟨%d3, H3⟩, H4, H5⟩
      iapply (run_B c (grid0.coords t) _ _ _ _ _ _ _ _ (ms0_4 t) (hs0_4 t) (ms0_5 t) (hs0_5 t) _ _ _ _ hc0 hc1 hc2 (iblk m c 0 t) (iblk m c 1 t) (iblk m c 2 t) (iblk m c 3 t) ds0 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]
          · iexists _; isplitr; swap; · iexact HS0
            ipureintro; exact filled_succ m c t ds0 hfill
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · icases HS0 with ⟨%d, -, HS0⟩; iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 9 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends, with every array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every run ends, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.KernelValue.lean ====
module

public import proofs.«01_k».proof.Proof.IdealFrame
public import Idealize.ShloMosaic.Lib.StableHlo.Run
public import Idealize.ShloMosaic.Lib.Pipeline.Value
public import Idealize.ShloMosaic.Lib.Pipeline.Dat

@[expose] public section

set_option maxRecDepth 16384

noncomputable section

/-! # What the kernel's two result arrays hold

The two results are written back once, after the last grid point, and whole: so they end at what the body left, the row scales
and the codes. The inputs' blocks are the whole arrays for the first two, and the point's 768 columns for the other two. -/

namespace Cert.KernelIdeal.Gen

open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The region finds the first operand reshaped to two axes, -/
theorem V_main_v0 (c : Dev nD) :
    V m c main_v0 = shapeCast S128x5120 (m ((c : Thread nD τ).loc main_arg0)) shapeCasts_S128x1x5120_S128x5120 := by
  show StableHlo.after hostOps0 _ (Proc.devRef .tc main_v0) = _
  after_results
  rfl

/-- and the second. -/
theorem V_main_v1 (c : Dev nD) :
    V m c main_v1 = shapeCast S128x1 (m ((c : Thread nD τ).loc main_arg1)) shapeCasts_S128x1x1_S128x1 := by
  show StableHlo.after hostOps0 _ (Proc.devRef .tc main_v1) = _
  after_results
  rfl

/-! ## The inputs' blocks -/

theorem index_0 : ∀ t : Fin cfg0.N, win0_0.index t 0 = 0 ∧ win0_0.index t 1 = 0 :=
  (by decide +kernel : ∀ t : Fin grid0.N, win0_0.index t 0 = 0 ∧ win0_0.index t 1 = 0)
theorem index_1 : ∀ t : Fin cfg0.N, win0_1.index t 0 = 0 ∧ win0_1.index t 1 = 0 :=
  (by decide +kernel : ∀ t : Fin grid0.N, win0_1.index t 0 = 0 ∧ win0_1.index t 1 = 0)
theorem index_2 : ∀ t : Fin cfg0.N, win0_2.index t 0 = 0 ∧ win0_2.index t 1 = t.val :=
  (by decide +kernel : ∀ t : Fin grid0.N, win0_2.index t 0 = 0 ∧ win0_2.index t 1 = t.val)
theorem index_3 : ∀ t : Fin cfg0.N, win0_3.index t 0 = 0 ∧ win0_3.index t 1 = t.val :=
  (by decide +kernel : ∀ t : Fin grid0.N, win0_3.index t 0 = 0 ∧ win0_3.index t 1 = t.val)
theorem index_4 : ∀ t : Fin cfg0.N, win0_4.index t 0 = 0 ∧ win0_4.index t 1 = 0 :=
  (by decide +kernel : ∀ t : Fin grid0.N, win0_4.index t 0 = 0 ∧ win0_4.index t 1 = 0)
theorem index_5 : ∀ t : Fin cfg0.N, win0_5.index t 0 = 0 ∧ win0_5.index t 1 = 0 :=
  (by decide +kernel : ∀ t : Fin grid0.N, win0_5.index t 0 = 0 ∧ win0_5.index t 1 = 0)

/-- The first operand's block is the whole array, at every point. -/
theorem iblk_0 (c : Dev nD) (t : Fin cfg0.N) : (iblk m c 0 t : Vec F S128x5120 .fp8e4m3) = V m c main_v0 := by
  have hz : (fun a => win0_0.index t a * main_v0.ty.shape.size a) = fun _ => 0 := funext fun a => by
    match a with
    | ⟨0, _⟩ => show win0_0.index t 0 * 128 = 0; rw [(index_0 t).1]
    | ⟨1, _⟩ => show win0_0.index t 1 * 5120 = 0; rw [(index_0 t).2]
  exact Memref.read_access_unit_zero (Elt F) main_v0 hz (fun a => by rw [congrFun hz a]; simp) (V m c main_v0)

/-- The second operand's too. -/
theorem iblk_1 (c : Dev nD) (t : Fin cfg0.N) : (iblk m c 1 t : Vec F S128x1 .f32) = V m c main_v1 := by
  have hz : (fun a => win0_1.index t a * main_v1.ty.shape.size a) = fun _ => 0 := funext fun a => by
    match a with
    | ⟨0, _⟩ => show win0_1.index t 0 * 128 = 0; rw [(index_1 t).1]
    | ⟨1, _⟩ => show win0_1.index t 1 * 1 = 0; rw [(index_1 t).2]
  exact Memref.read_access_unit_zero (Elt F) main_v1 hz (fun a => by rw [congrFun hz a]; simp) (V m c main_v1)

theorem column_lt (t : Fin cfg0.N) (j : Fin 768) : 768 * t.val + j.val < 6912 := by
  have ht : t.val < 9 := lt_of_lt_of_eq t.isLt N_0
  have := j.isLt; omega

/-- The weights' block at point `t` is their 768 columns from `768 * t` on. -/
theorem iblk_2 (c : Dev nD) (t : Fin cfg0.N) (k : Fin 5120) (j : Fin 768) :
    (iblk m c 2 t : Vec F S5120x768 .fp8e4m3) (ValueIdx.ix2 k j)
      = (V m c main_arg2 : Vec F S5120x6912 .fp8e4m3) (ValueIdx.ix2 k ⟨768 * t.val + j.val, column_lt t j⟩) := by
  unfold iblk
  rw [View.read_apply]
  refine congrArg (V m c main_arg2) (funext fun a => Fin.ext ?_)
  match a with
  | ⟨0, _⟩ => show win0_2.index t 0 * 5120 + 1 * k.val = k.val; rw [(index_2 t).1]; omega
  | ⟨1, _⟩ => show win0_2.index t 1 * 768 + 1 * j.val = 768 * t.val + j.val; rw [(index_2 t).2]; omega

/-- So is the column scales' block. -/
theorem iblk_3 (c : Dev nD) (t : Fin cfg0.N) (j : Fin 768) :
    (iblk m c 3 t : Vec F S1x768 .f32) (ValueIdx.ix2 0 j)
      = (V m c main_arg3 : Vec F S1x6912 .f32) (ValueIdx.ix2 0 ⟨768 * t.val + j.val, column_lt t j⟩) := by
  unfold iblk
  rw [View.read_apply]
  refine congrArg (V m c main_arg3) (funext fun a => Fin.ext ?_)
  match a with
  | ⟨0, _⟩ => show win0_3.index t 0 * 1 + 1 * 0 = 0; rw [(index_3 t).1]
  | ⟨1, _⟩ => show win0_3.index t 1 * 768 + 1 * j.val = 768 * t.val + j.val; rw [(index_3 t).2]; omega

/-! ## The result arrays -/

/-- What is written back to the scales' array is the scales, read through the one block. -/
theorem flushed_4 (c : Dev nD) (t : Fin cfg0.N) :
    (dats m 0 c).flushed 4 t = ((cfg0.win 4).blk t).view.read (Elt F) (scaleOut m c) := by
  have hz : (fun a => win0_4.index t a * main_v2_0.ty.shape.size a) = fun _ => 0 := funext fun a => by
    match a with
    | ⟨0, _⟩ => show win0_4.index t 0 * 128 = 0; rw [(index_4 t).1]
    | ⟨1, _⟩ => show win0_4.index t 1 * 1 = 0; rw [(index_4 t).2]
  show (cfg0.win 4).cut (grid0.coords t) ((dats m 0 c).after 4 t) = _
  rw [after0_4]
  exact (Memref.read_access_unit_zero (Elt F) main_v2_0 hz (fun a => by rw [congrFun hz a]; simp) (scaleOut m c)).symm

/-- What is written back to the codes' array is the codes. -/
theorem flushed_5 (c : Dev nD) (t : Fin cfg0.N) :
    (dats m 0 c).flushed 5 t = ((cfg0.win 5).blk t).view.read (Elt F) (codesOut m c) := by
  have hz : (fun a => win0_5.index t a * main_v2_1.ty.shape.size a) = fun _ => 0 := funext fun a => by
    match a with
    | ⟨0, _⟩ => show win0_5.index t 0 * 128 = 0; rw [(index_5 t).1]
    | ⟨1, _⟩ => show win0_5.index t 1 * 6912 = 0; rw [(index_5 t).2]
  show (cfg0.win 5).cut (grid0.coords t) ((dats m 0 c).after 5 t) = _
  rw [after0_5]
  exact (Memref.read_access_unit_zero (Elt F) main_v2_1 hz (fun a => by rw [congrFun hz a]; simp) (codesOut m c)).symm

/-- The scales' array ends at the scales: the last point's block covers it. -/
theorem final_4 (c : Dev nD) : (dats m 0 c).arrAt 4 cfg0.N = scaleOut m c :=
  (dats m 0 c).arrAt_eq_of_cover 4 (scaleOut m c) (fun t _ => flushed_4 m c t) fun i =>
    ⟨⟨8, eight_lt⟩, (flush0_4 ⟨8, eight_lt⟩).mpr rfl, by
      show i ∈ ((View.whole main_v2_0).slice (win0_4.rect ⟨8, eight_lt⟩)).set
      rw [View.set_slice_whole, Rect.mem_set_unit]
      intro a
      have h0 : (i 0 : Nat) < 128 := (i 0).isLt
      have h1 : (i 1 : Nat) < 1 := (i 1).isLt
      match a with
      | ⟨0, _⟩ => show win0_4.index ⟨8, eight_lt⟩ 0 * 128 ≤ (i 0 : Nat) ∧ (i 0 : Nat) < win0_4.index ⟨8, eight_lt⟩ 0 * 128 + 128
                  rw [(index_4 ⟨8, eight_lt⟩).1]; omega
      | ⟨1, _⟩ => show win0_4.index ⟨8, eight_lt⟩ 1 * 1 ≤ (i 1 : Nat) ∧ (i 1 : Nat) < win0_4.index ⟨8, eight_lt⟩ 1 * 1 + 1
                  rw [(index_4 ⟨8, eight_lt⟩).2]; omega⟩

/-- The codes' array ends at the codes. -/
theorem final_5 (c : Dev nD) : (dats m 0 c).arrAt 5 cfg0.N = codesOut m c :=
  (dats m 0 c).arrAt_eq_of_cover 5 (codesOut m c) (fun t _ => flushed_5 m c t) fun i =>
    ⟨⟨8, eight_lt⟩, (flush0_5 ⟨8, eight_lt⟩).mpr rfl, by
      show i ∈ ((View.whole main_v2_1).slice (win0_5.rect ⟨8, eight_lt⟩)).set
      rw [View.set_slice_whole, Rect.mem_set_unit]
      intro a
      have h0 : (i 0 : Nat) < 128 := (i 0).isLt
      have h1 : (i 1 : Nat) < 6912 := (i 1).isLt
      match a with
      | ⟨0, _⟩ => show win0_5.index ⟨8, eight_lt⟩ 0 * 128 ≤ (i 0 : Nat) ∧ (i 0 : Nat) < win0_5.index ⟨8, eight_lt⟩ 0 * 128 + 128
                  rw [(index_5 ⟨8, eight_lt⟩).1]; omega
      | ⟨1, _⟩ => show win0_5.index ⟨8, eight_lt⟩ 1 * 6912 ≤ (i 1 : Nat) ∧ (i 1 : Nat) < win0_5.index ⟨8, eight_lt⟩ 1 * 6912 + 6912
                  rw [(index_5 ⟨8, eight_lt⟩).2]; omega⟩

/-- The run: the results at the scales and the codes, the arguments unchanged. -/
theorem run_value : θ_run defs (onTc (τ := τ) (main (F := F))) ⟨m, fun _ => 0, ρ⟩ (fun r => ∀ c : Dev nD,
      r.2.mem ((c.tc : Thread nD τ).loc main_v2_0) = scaleOut m c
      ∧ r.2.mem ((c.tc : Thread nD τ).loc main_v2_1) = codesOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (unchanged m ρ))
  exact ⟨((h.1 c).1 4).trans (final_4 m c), ((h.1 c).1 5).trans (final_5 m c), h.2 c⟩

end Cert.KernelIdeal.Gen

end
-- ==== Proof.ReferenceValue.lean ====
module

public import proofs.«01_k».proof.Proof.Gen.ReferenceIdeal.Frame
public import Idealize.ShloMosaic.Lib.StableHlo.Run
public import Idealize.ShloMosaic.Lib.Pipeline.Value
public import Idealize.ShloMosaic.Lib.Pipeline.Dat
public import Idealize.ShloMosaic.Lib.Claim

@[expose] public section

set_option maxRecDepth 16384

noncomputable section

/-! # What the reference's two result arrays hold

The reference has one point, whose blocks are the whole arrays: its results are the body's two values of the arrays as launched,
the first two reshaped to two axes. -/

namespace Cert.ReferenceIdeal.Gen

open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The region finds the first operand reshaped to two axes, -/
theorem V_main_v0 (c : Dev nD) :
    V m c main_v0 = shapeCast S128x5120 (m ((c : Thread nD τ).loc main_arg0)) shapeCasts_S128x1x5120_S128x5120 := by
  show StableHlo.after hostOps0 _ (Proc.devRef .tc main_v0) = _
  after_results
  rfl

/-- and the second. -/
theorem V_main_v1 (c : Dev nD) :
    V m c main_v1 = shapeCast S128x1 (m ((c : Thread nD τ).loc main_arg1)) shapeCasts_S128x1x1_S128x1 := by
  show StableHlo.after hostOps0 _ (Proc.devRef .tc main_v1) = _
  after_results
  rfl

/-- The scales of four whole arrays. -/
def scaleRef (x0 : Vec F S128x5120 .fp8e4m3) (x1 : Vec F S128x1 .f32) (x2 : Vec F S5120x6912 .fp8e4m3) (x3 : Vec F S1x6912 .f32) : Vec F S128x1 .f32 :=
  k0_pay2 (k0_pay6 x0 x2 x1 x3) (k0_pay7 x0 x2 x1 x3)

/-- The codes of four whole arrays. -/
def codesRef (x0 : Vec F S128x5120 .fp8e4m3) (x1 : Vec F S128x1 .f32) (x2 : Vec F S5120x6912 .fp8e4m3) (x3 : Vec F S1x6912 .f32) : Vec F S128x6912 .fp8e4m3 :=
  k0_pay3 (k0_pay4 x0 x2 x1 x3) (k0_pay6 x0 x2 x1 x3) (k0_pay7 x0 x2 x1 x3)

theorem zeros : (![0, 0] : Fin 2 → Nat) = fun _ => 0 := funext fun a => by
  match a with
  | ⟨0, _⟩ => rfl
  | ⟨1, _⟩ => rfl

/-- The whole-buffer loads read the buffers and the one covering store leaves its value. -/
theorem out4_eq (x0 : Vec F S128x5120 .fp8e4m3) (x1 : Vec F S128x1 .f32) (x2 : Vec F S5120x6912 .fp8e4m3) (x3 : Vec F S1x6912 .f32) :
    out0_4 x0 x1 x2 x3 = scaleRef x0 x1 x2 x3 := by
  unfold out0_4 k0_pay8 k0_pay9 scaleRef
  rw [View.canon_unit_zero zeros, View.ld_unit_zero zeros, View.ld_unit_zero zeros, View.ld_unit_zero zeros, View.ld_unit_zero zeros]

theorem out5_eq (x0 : Vec F S128x5120 .fp8e4m3) (x1 : Vec F S128x1 .f32) (x2 : Vec F S5120x6912 .fp8e4m3) (x3 : Vec F S1x6912 .f32) :
    out0_5 x0 x1 x2 x3 = codesRef x0 x1 x2 x3 := by
  unfold out0_5 k0_pay8 k0_pay9 codesRef
  rw [View.canon_unit_zero zeros, View.ld_unit_zero zeros, View.ld_unit_zero zeros, View.ld_unit_zero zeros, View.ld_unit_zero zeros]

/-- Every block is the whole array. -/
theorem iblk_0 (c : Dev nD) (t : Fin cfg0.N) : (iblk m c 0 t : Vec F S128x5120 .fp8e4m3) = V m c main_v0 := by
  obtain rfl := fin_N0 t
  have hz : (fun a => win0_0.index t0_0 a * main_v0.ty.shape.size a) = fun _ => 0 := funext fun a => by
    fin_cases a <;> decide
  exact Memref.read_access_unit_zero (Elt F) main_v0 hz (fun a => by rw [congrFun hz a]; simp) (V m c main_v0)
theorem iblk_1 (c : Dev nD) (t : Fin cfg0.N) : (iblk m c 1 t : Vec F S128x1 .f32) = V m c main_v1 := by
  obtain rfl := fin_N0 t
  have hz : (fun a => win0_1.index t0_0 a * main_v1.ty.shape.size a) = fun _ => 0 := funext fun a => by
    fin_cases a <;> decide
  exact Memref.read_access_unit_zero (Elt F) main_v1 hz (fun a => by rw [congrFun hz a]; simp) (V m c main_v1)
theorem iblk_2 (c : Dev nD) (t : Fin cfg0.N) : (iblk m c 2 t : Vec F S5120x6912 .fp8e4m3) = V m c main_arg2 := by
  obtain rfl := fin_N0 t
  have hz : (fun a => win0_2.index t0_0 a * main_arg2.ty.shape.size a) = fun _ => 0 := funext fun a => by
    fin_cases a <;> decide
  exact Memref.read_access_unit_zero (Elt F) main_arg2 hz (fun a => by rw [congrFun hz a]; simp) (V m c main_arg2)
theorem iblk_3 (c : Dev nD) (t : Fin cfg0.N) : (iblk m c 3 t : Vec F S1x6912 .f32) = V m c main_arg3 := by
  obtain rfl := fin_N0 t
  have hz : (fun a => win0_3.index t0_0 a * main_arg3.ty.shape.size a) = fun _ => 0 := funext fun a => by
    fin_cases a <;> decide
  exact Memref.read_access_unit_zero (Elt F) main_arg3 hz (fun a => by rw [congrFun hz a]; simp) (V m c main_arg3)

/-- The scales' array ends at the scales of the arrays the region finds. -/
theorem final_4 (c : Dev nD) :
    (dats m 0 c).arrAt 4 cfg0.N = scaleRef (V m c main_v0) (V m c main_v1) (V m c main_arg2) (V m c main_arg3) := by
  have hz : (fun a => win0_4.index t0_0 a * main_v2_0.ty.shape.size a) = fun _ => 0 := funext fun a => by
    fin_cases a <;> decide
  have hr := fun f => Memref.read_access_unit_zero (Elt F) main_v2_0 hz (fun a => by rw [congrFun hz a]; simp) f
  have ho : ((cfg0.win 4).blk t0_0).view.read (Elt F) ((dats m 0 c).arrAt 4 cfg0.N) = (dats m 0 c).flushed 4 t0_0 := by
    rw [show cfg0.N = (t0_0 : Fin cfg0.N).val + 1 from N_0, (dats m 0 c).arrAt_succ 4 t0_0]
    rw [show (cfg0.win 4).flush t0_0 = true from by decide, if_pos rfl]
    exact View.read_write_univ _ _
  refine (hr _).symm.trans (ho.trans ?_)
  show (cfg0.win 4).cut _ ((dats m 0 c).after 4 t0_0) = _
  rw [after0_4, out4_eq, iblk_0, iblk_1, iblk_2, iblk_3]
  rfl

/-- The codes' array ends at the codes. -/
theorem final_5 (c : Dev nD) :
    (dats m 0 c).arrAt 5 cfg0.N = codesRef (V m c main_v0) (V m c main_v1) (V m c main_arg2) (V m c main_arg3) := by
  have hz : (fun a => win0_5.index t0_0 a * main_v2_1.ty.shape.size a) = fun _ => 0 := funext fun a => by
    fin_cases a <;> decide
  have hr := fun f => Memref.read_access_unit_zero (Elt F) main_v2_1 hz (fun a => by rw [congrFun hz a]; simp) f
  have ho : ((cfg0.win 5).blk t0_0).view.read (Elt F) ((dats m 0 c).arrAt 5 cfg0.N) = (dats m 0 c).flushed 5 t0_0 := by
    rw [show cfg0.N = (t0_0 : Fin cfg0.N).val + 1 from N_0, (dats m 0 c).arrAt_succ 5 t0_0]
    rw [show (cfg0.win 5).flush t0_0 = true from by decide, if_pos rfl]
    exact View.read_write_univ _ _
  refine (hr _).symm.trans (ho.trans ?_)
  show (cfg0.win 5).cut _ ((dats m 0 c).after 5 t0_0) = _
  rw [after0_5, out5_eq, iblk_0, iblk_1, iblk_2, iblk_3]
  rfl

/-- The run: the results at the scales and the codes, the arguments unchanged. -/
theorem run_value : θ_run defs (onTc (τ := τ) (main (F := F))) ⟨m, fun _ => 0, ρ⟩ (fun r => ∀ c : Dev nD,
      r.2.mem ((c.tc : Thread nD τ).loc main_v2_0) = scaleRef (V m c main_v0) (V m c main_v1) (V m c main_arg2) (V m c main_arg3)
      ∧ r.2.mem ((c.tc : Thread nD τ).loc main_v2_1) = codesRef (V m c main_v0) (V m c main_v1) (V m c main_arg2) (V m c main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (unchanged m ρ))
  exact ⟨((h.1 c).1 4).trans (final_4 m c), ((h.1 c).1 5).trans (final_5 m c), h.2 c⟩

end Cert.ReferenceIdeal.Gen

end
-- ==== Proof.Quantiser.lean ====
module

public import Idealize.ShloMosaic.PureOps.Ideal
public import Idealize.ShloMosaic.Lib.IdealHost
public import Mathlib.Data.EReal.Basic
public import Mathlib.Data.Finset.Fold

@[expose] public section

set_option maxRecDepth 16384

noncomputable section

/-! # The quantiser's exponent and scale, on the extended reals

The kernel builds the powers of two from float bit fields: it counts the fields whose power is at most the value, and puts a
field back into a float to get the scale. The reference takes the largest exponent whose power of two is at most the value,
and raises two to it. This module proves the two agree. -/

namespace Cert.Quant

open Idealize.ShloMosaic

/-- The float whose exponent field is the word `w`, its other bits zero. -/
def fieldFloat (w : BitVec 32) : EReal := Ideal.ofBits .f32 (w <<< 23)

/-- The same by the field's number. -/
def power (i : ℕ) : EReal := fieldFloat (BitVec.ofNat 32 i)

/-- The three parts of a word that holds an exponent field only. -/
theorem field_parts : ∀ i : Fin 256,
    ((BitVec.ofNat 32 i.val <<< 23).extractLsb' 31 1 == 1#1) = false
    ∧ ((BitVec.ofNat 32 i.val <<< 23).extractLsb' 23 8).toNat = i.val
    ∧ ((BitVec.ofNat 32 i.val <<< 23).extractLsb' 0 23).toNat = 0 := by decide +kernel

/-- Field 0 is zero. -/
theorem power_zero : power 0 = 0 := by
  obtain ⟨h1, h2, h3⟩ := field_parts 0
  have h2 : ((BitVec.ofNat 32 0 <<< 23).extractLsb' 23 8).toNat = 0 := h2
  have h3 : ((BitVec.ofNat 32 0 <<< 23).extractLsb' 0 23).toNat = 0 := h3
  show Ideal.ieee 8 23 (BitVec.ofNat 32 0 <<< 23) = 0
  unfold Ideal.ieee
  simp only [h2, h3]
  simp

/-- Field 255 is the infinity. -/
theorem power_top : power 255 = ⊤ := by
  obtain ⟨h1, h2, h3⟩ := field_parts 255
  have h1 : ((BitVec.ofNat 32 255 <<< 23).extractLsb' 31 1 == 1#1) = false := h1
  have h2 : ((BitVec.ofNat 32 255 <<< 23).extractLsb' 23 8).toNat = 255 := h2
  have h3 : ((BitVec.ofNat 32 255 <<< 23).extractLsb' 0 23).toNat = 0 := h3
  show Ideal.ieee 8 23 (BitVec.ofNat 32 255 <<< 23) = ⊤
  unfold Ideal.ieee
  simp only [h2, h3, h1]
  simp

/-- Every field between is the power of two 127 below it. -/
theorem power_mid (i : ℕ) (h0 : 1 ≤ i) (h1 : i ≤ 254) : power i = (((2 : ℝ) ^ ((i : ℤ) - 127) : ℝ) : EReal) := by
  obtain ⟨e1, e2, e3⟩ := field_parts ⟨i, by omega⟩
  have e1 : ((BitVec.ofNat 32 i <<< 23).extractLsb' 31 1 == 1#1) = false := e1
  have e2 : ((BitVec.ofNat 32 i <<< 23).extractLsb' 23 8).toNat = i := e2
  have e3 : ((BitVec.ofNat 32 i <<< 23).extractLsb' 0 23).toNat = 0 := e3
  show Ideal.ieee 8 23 (BitVec.ofNat 32 i <<< 23) = _
  unfold Ideal.ieee
  simp only [e2, e3, e1]
  rw [if_neg (by norm_num; omega), if_neg (by omega)]
  refine congrArg Real.toEReal ?_
  rw [show ((i : ℤ) - 127) = 23 + ((i : ℤ) - (2 ^ (8 - 1) - 1) - (23 : ℕ)) by push_cast; ring, zpow_add₀ (by norm_num)]
  norm_num

/-- The powers grow with the field. -/
theorem power_lt (i j : ℕ) (hij : i < j) (hj : j ≤ 255) : power i < power j := by
  have mid_pos : ∀ k : ℕ, (0 : EReal) < (((2 : ℝ) ^ ((k : ℤ) - 127) : ℝ) : EReal) := fun k => by
    exact_mod_cast zpow_pos (by norm_num : (0 : ℝ) < 2) _
  rcases Nat.eq_zero_or_pos i with h | h
  · subst h
    rw [power_zero]
    rcases Nat.lt_or_ge j 255 with h' | h'
    · rw [power_mid j (by omega) (by omega)]; exact mid_pos j
    · rw [show j = 255 by omega, power_top]; exact EReal.zero_lt_top
  · rw [power_mid i h (by omega)]
    rcases Nat.lt_or_ge j 255 with h' | h'
    · rw [power_mid j (by omega) (by omega), EReal.coe_lt_coe_iff]
      exact zpow_lt_zpow_right₀ (by norm_num) (by omega)
    · rw [show j = 255 by omega, power_top]; exact EReal.coe_lt_top _

theorem power_le (i j : ℕ) (hij : i ≤ j) (hj : j ≤ 255) : power i ≤ power j := by
  rcases Nat.lt_or_ge i j with h | h
  · exact (power_lt i j h hj).le
  · rw [show i = j by omega]

/-! ## The count of fields -/

/-- How many fields' powers are at most `v`. -/
def count (v : EReal) : ℕ := (Finset.univ.filter fun k : Fin 256 => power k.val ≤ v).card

/-- A downward closed set of numbers below `N` is an initial segment. -/
theorem initial_segment (P : ℕ → Prop) (N : ℕ) (h : ∀ i j, i ≤ j → j < N → P j → P i) :
    ∃ n ≤ N, ∀ k < N, P k ↔ k < n := by
  classical
  induction N with
  | zero => exact ⟨0, le_refl _, fun k hk => absurd hk (Nat.not_lt_zero k)⟩
  | succ N ih =>
    obtain ⟨n, hn, hk⟩ := ih fun i j hij hj => h i j hij (Nat.lt_succ_of_lt hj)
    by_cases hP : P N
    · refine ⟨N + 1, le_refl _, fun k hk' => ⟨fun _ => hk', fun _ => h k N (by omega) (by omega) hP⟩⟩
    · refine ⟨n, by omega, fun k hk' => ?_⟩
      rcases Nat.lt_or_ge k N with h' | h'
      · exact hk k h'
      · rw [show k = N by omega]
        exact ⟨fun h => absurd h hP, fun h => absurd h (by omega)⟩

/-- The fields whose powers are at most `v` are the first `count v`. -/
theorem power_le_iff (v : EReal) (k : ℕ) (hk : k < 256) : power k ≤ v ↔ k < count v := by
  obtain ⟨n, hn, h⟩ := initial_segment (fun k => power k ≤ v) 256
    fun i j hij hj hv => le_trans (power_le i j hij (by omega)) hv
  have : count v = n := by
    unfold count
    rw [show (Finset.univ.filter fun k : Fin 256 => power k.val ≤ v) = Finset.univ.filter fun k : Fin 256 => k.val < n from
      Finset.filter_congr fun k _ => h k.val k.isLt]
    rw [Fin.card_filter_val_lt]; omega
  rw [this]; exact h k hk

theorem count_le (v : EReal) : count v ≤ 256 := by
  unfold count
  exact (Finset.card_le_univ _).trans (by simp)

/-! ## The exponent -/

/-- The kernel's exponent from its count, as a word. -/
def wordExponent (cnt : BitVec 32) : BitVec 32 :=
  Scalar.select (IntOp.ori (IntOp.cmpi .sle cnt 1#32) (IntOp.cmpi .eq cnt 256#32)) 0#32 (IntOp.subi cnt 127#32)

/-- One candidate exponent of the reference: the integers from -126 on. -/
def candidate (k : ℕ) : EReal := (((BitVec.ofNat 32 k).toInt : ℝ) : EReal) - Ideal.ofBits .f32 0x42FC0000#32

/-- The reference's largest exponent plus one over the powers of two that are at most `v`. -/
def foldExponent (v : EReal) : EReal :=
  (Finset.univ : Finset (Fin 254)).fold max (Ideal.ofBits .f32 0xFF800000#32) fun k =>
    Scalar.select (Ideal.cmp .ole (Ideal.exp2 (candidate k.val)) v) (candidate k.val + Ideal.ofBits .f32 0x3F800000#32)
      (Ideal.ofBits .f32 0xFF800000#32)

/-- The reference's exponent: zero below the smallest normal number and at the infinity. -/
def realExponent (v : EReal) : EReal :=
  Scalar.select (IntOp.ori (Ideal.cmp .olt v (Ideal.ofBits .f32 0x00800000#32)) (Ideal.cmp .oeq v (Ideal.ofBits .f32 0x7F800000#32)))
    (Ideal.ofBits .f32 0x00000000#32) (foldExponent v)

theorem ofBits_126 : Ideal.ofBits .f32 0x42FC0000#32 = ((126 : ℝ) : EReal) := by
  simp [Ideal.ofBits, Ideal.ieee, -EReal.coe_mul]; norm_num
theorem ofBits_neg_126 : Ideal.ofBits .f32 0xC2FC0000#32 = ((-126 : ℝ) : EReal) := by
  simp [Ideal.ofBits, Ideal.ieee, -EReal.coe_mul, -EReal.coe_neg]; norm_num
theorem ofBits_127 : Ideal.ofBits .f32 0x42FE0000#32 = ((127 : ℝ) : EReal) := by
  simp [Ideal.ofBits, Ideal.ieee, -EReal.coe_mul]; norm_num
theorem ofBits_neg_inf : Ideal.ofBits .f32 0xFF800000#32 = ⊥ := by
  simp [Ideal.ofBits, Ideal.ieee]
theorem ofBits_smallest : Ideal.ofBits .f32 0x00800000#32 = power 1 := rfl
theorem ofBits_inf : Ideal.ofBits .f32 0x7F800000#32 = power 255 := rfl
theorem ofBits_zero : Ideal.ofBits .f32 0x00000000#32 = 0 := power_zero
theorem ofBits_one : Ideal.ofBits .f32 0x3F800000#32 = ((1 : ℝ) : EReal) := by
  simp [Ideal.ofBits, Ideal.ieee, -EReal.coe_mul]; norm_num

theorem toInt_small : ∀ k : Fin 254, (BitVec.ofNat 32 k.val).toInt = (k.val : ℤ) := by decide +kernel

theorem candidate_eq (k : ℕ) (hk : k < 254) : candidate k = (((k : ℝ) - 126 : ℝ) : EReal) := by
  unfold candidate
  have := toInt_small ⟨k, hk⟩
  dsimp only at this
  rw [this, ofBits_126, ← EReal.coe_sub]; norm_cast

/-- Two to an integer is the power of the field 127 above it. -/
theorem exp2_int (z : ℤ) (h0 : -126 ≤ z) (h1 : z ≤ 127) : Ideal.exp2 ((z : ℝ) : EReal) = power (z + 127).toNat := by
  rw [Ideal.exp2_coe, power_mid _ (by omega) (by omega)]
  rw [show (((z + 127).toNat : ℕ) : ℤ) - 127 = z by omega]
  congr 1
  exact Real.rpow_intCast 2 z

theorem select_ofBool {α : Type} (p : Prop) [Decidable p] (a b : α) : Scalar.select (BitVec.ofBool (decide p)) a b = if p then a else b := by
  unfold Scalar.select
  by_cases h : p <;> simp [h]

theorem ori_ofBool (p q : Prop) [Decidable p] [Decidable q] :
    IntOp.ori (BitVec.ofBool (decide p)) (BitVec.ofBool (decide q)) = BitVec.ofBool (decide (p ∨ q)) := by
  unfold IntOp.ori
  by_cases h : p <;> by_cases h' : q <;> simp [h, h']

/-- Where at least two fields count and the value is finite, the reference's exponent is the count less 127. -/
theorem foldExponent_eq (v : EReal) (h2 : 2 ≤ count v) (h : count v ≤ 255) :
    foldExponent v = ((((count v : ℤ) - 127 : ℤ) : ℝ) : EReal) := by
  have term : ∀ k : Fin 254, Scalar.select (Ideal.cmp .ole (Ideal.exp2 (candidate k.val)) v) (candidate k.val + Ideal.ofBits .f32 0x3F800000#32)
      (Ideal.ofBits .f32 0xFF800000#32) = if k.val + 1 < count v then (((k.val : ℝ) - 125 : ℝ) : EReal) else ⊥ := fun k => by
    unfold Ideal.cmp
    rw [select_ofBool, candidate_eq k.val k.isLt, ofBits_one, ofBits_neg_inf]
    have e : Ideal.exp2 (((k.val : ℝ) - 126 : ℝ) : EReal) = power (k.val + 1) := by
      have := exp2_int ((k.val : ℤ) - 126) (by omega) (by omega)
      rw [show ((k.val : ℤ) - 126 + 127).toNat = k.val + 1 by omega] at this
      rw [← this]; push_cast; rfl
    rw [e, ← EReal.coe_add]
    simp only [power_le_iff v (k.val + 1) (by omega)]
    congr 2; ring
  unfold foldExponent
  rw [ofBits_neg_inf]
  rw [ofBits_neg_inf] at term
  simp only [term]
  apply le_antisymm
  · refine (Finset.fold_max_le _).mpr ⟨bot_le, fun k _ => ?_⟩
    split
    · rename_i hk
      rw [EReal.coe_le_coe_iff]
      have : (k.val : ℝ) + 2 ≤ (count v : ℝ) := by exact_mod_cast hk
      push_cast; linarith
    · exact bot_le
  · refine (Finset.le_fold_max _).mpr (Or.inr ⟨⟨count v - 2, by omega⟩, Finset.mem_univ _, ?_⟩)
    dsimp only
    rw [if_pos (by omega), EReal.coe_le_coe_iff, Nat.cast_sub h2]
    push_cast; linarith

/-- The word exponent at every count. -/
theorem wordExponent_eq : ∀ n : Fin 257, wordExponent (BitVec.ofNat 32 n.val)
    = BitVec.ofInt 32 (if n.val ≤ 1 ∨ n.val = 256 then 0 else (n.val : ℤ) - 127) := by decide +kernel

/-- The two exponents are one integer between -125 and 128, the kernel's as a word and the reference's as a number. -/
theorem exponent_eq (v : EReal) (hv : 0 ≤ v) :
    ∃ z : ℤ, -125 ≤ z ∧ z ≤ 128 ∧ wordExponent (BitVec.ofNat 32 (count v)) = BitVec.ofInt 32 z ∧ realExponent v = ((z : ℝ) : EReal) := by
  have hc := count_le v
  have h0 : 0 < count v := (power_le_iff v 0 (by omega)).mp (by rw [power_zero]; exact hv)
  have hw := wordExponent_eq ⟨count v, by omega⟩
  dsimp only at hw
  have hr : realExponent v = if count v ≤ 1 ∨ count v = 256 then 0 else foldExponent v := by
    unfold realExponent Ideal.cmp
    rw [ori_ofBool, select_ofBool, ofBits_smallest, ofBits_inf, ofBits_zero]
    have e1 : v < power 1 ↔ count v ≤ 1 := by
      rw [← not_le, power_le_iff v 1 (by omega)]; omega
    have e2 : v = power 255 ↔ count v = 256 := by
      rw [show count v = 256 ↔ 255 < count v by omega, ← power_le_iff v 255 (by omega), power_top, top_le_iff]
    simp only [e1, e2]
  by_cases h : count v ≤ 1 ∨ count v = 256
  · rw [if_pos h] at hw hr
    exact ⟨0, by omega, by omega, hw, by rw [hr]; simp⟩
  · rw [if_neg h] at hw hr
    exact ⟨(count v : ℤ) - 127, by omega, by omega, hw, by rw [hr]; exact foldExponent_eq v (by omega) (by omega)⟩

/-! ## The scale -/

/-- The kernel's power of two of an exponent word: the field, kept between 0 and 255, put back into a float. -/
def wordScale (w : BitVec 32) : EReal :=
  fieldFloat (IntOp.minsi 255#32 (IntOp.maxsi 0#32 (IntOp.addi w 127#32)))

/-- The reference's power of two: zero below the smallest normal number, infinity above the largest. -/
def realScale (e : EReal) : EReal :=
  Scalar.select (Ideal.cmp .olt e (Ideal.ofBits .f32 0xC2FC0000#32)) (Ideal.ofBits .f32 0x00000000#32)
    (Scalar.select (Ideal.cmp .ogt e (Ideal.ofBits .f32 0x42FE0000#32)) (Ideal.ofBits .f32 0x7F800000#32) (Ideal.exp2 e))

theorem clip_field : ∀ n : Fin 257, IntOp.minsi 255#32 (IntOp.maxsi 0#32 (IntOp.addi (BitVec.ofInt 32 ((n.val : ℤ) - 128)) 127#32))
    = BitVec.ofNat 32 (n.val - 1) := by decide +kernel

/-- The two powers of two agree at every exponent from -128 to 128. -/
theorem scale_eq (z : ℤ) (h0 : -128 ≤ z) (h1 : z ≤ 128) : wordScale (BitVec.ofInt 32 z) = realScale ((z : ℝ) : EReal) := by
  have hw : wordScale (BitVec.ofInt 32 z) = power ((z + 128).toNat - 1) := by
    have := clip_field ⟨(z + 128).toNat, by omega⟩
    dsimp only at this
    rw [show ((z + 128).toNat : ℤ) - 128 = z by omega] at this
    unfold wordScale
    rw [this]; rfl
  rw [hw]
  unfold realScale Ideal.cmp
  rw [select_ofBool, select_ofBool, ofBits_neg_126, ofBits_127, ofBits_zero, ofBits_inf]
  have e1 : ((z : ℝ) : EReal) < ((-126 : ℝ) : EReal) ↔ z < -126 := by
    rw [EReal.coe_lt_coe_iff]; exact_mod_cast Iff.rfl
  have e2 : ((127 : ℝ) : EReal) < ((z : ℝ) : EReal) ↔ 127 < z := by
    rw [EReal.coe_lt_coe_iff]; exact_mod_cast Iff.rfl
  simp only [e1, e2]
  by_cases c1 : z < -126
  · rw [if_pos c1, show (z + 128).toNat - 1 = 0 by omega, power_zero]
  · rw [if_neg c1]
    by_cases c2 : 127 < z
    · rw [if_pos c2, show (z + 128).toNat - 1 = 255 by omega]
    · rw [if_neg c2, exp2_int z (by omega) (by omega), show (z + 128).toNat - 1 = (z + 127).toNat by omega]

/-! ## The quantiser of one row -/

/-- The kernel's exponent of a row whose largest magnitude is `a`: zero for a row of zeros. -/
def rowWord (a : EReal) : BitVec 32 :=
  Scalar.select (Ideal.cmp .oeq a (Ideal.ofBits .f32 0x00000000#32)) 0#32
    (wordExponent (BitVec.ofNat 32 (count (a * Ideal.ofBits .f32 0x3B124925#32))))

/-- The reference's exponent of that row. -/
def rowReal (a : EReal) : EReal :=
  Scalar.select (Ideal.cmp .oeq a (Ideal.ofBits .f32 0x00000000#32)) (Ideal.ofBits .f32 0x00000000#32)
    (realExponent (a * Ideal.ofBits .f32 0x3B124925#32))

theorem ofBits_rcp_nonneg : 0 ≤ Ideal.ofBits .f32 0x3B124925#32 := by
  have : Ideal.ofBits .f32 0x3B124925#32 = (((2 ^ 23 + 1198373 : ℕ) * (2 : ℝ) ^ (-32 : ℤ) : ℝ) : EReal) := by
    simp [Ideal.ofBits, Ideal.ieee, -EReal.coe_mul]
  rw [this]
  exact_mod_cast (by positivity : (0 : ℝ) ≤ (2 ^ 23 + 1198373 : ℕ) * (2 : ℝ) ^ (-32 : ℤ))

/-- A row's two exponents are one integer. -/
theorem row_eq (a : EReal) (ha : 0 ≤ a) :
    ∃ z : ℤ, -125 ≤ z ∧ z ≤ 128 ∧ rowWord a = BitVec.ofInt 32 z ∧ rowReal a = ((z : ℝ) : EReal) := by
  unfold rowWord rowReal Ideal.cmp
  rw [select_ofBool, select_ofBool, ofBits_zero]
  by_cases h : a = 0
  · rw [if_pos h, if_pos h]
    exact ⟨0, by omega, by omega, rfl, by simp⟩
  · rw [if_neg h, if_neg h]
    exact exponent_eq _ (mul_nonneg ha ofBits_rcp_nonneg)

/-- The row's scale is the same on both sides, -/
theorem row_scale (a : EReal) (ha : 0 ≤ a) : wordScale (rowWord a) = realScale (rowReal a) := by
  obtain ⟨z, h0, h1, hw, hr⟩ := row_eq a ha
  rw [hw, hr]; exact scale_eq z (by omega) h1

/-- and so is what the row is multiplied by. -/
theorem row_inverse (a : EReal) (ha : 0 ≤ a) :
    wordScale (IntOp.subi 0#32 (rowWord a)) = realScale (Ideal.ofBits .f32 0x00000000#32 - rowReal a) := by
  obtain ⟨z, h0, h1, hw, hr⟩ := row_eq a ha
  rw [hw, hr, ofBits_zero]
  have e : IntOp.subi 0#32 (BitVec.ofInt 32 z) = BitVec.ofInt 32 (-z) := by
    show 0#32 - BitVec.ofInt 32 z = _
    rw [BitVec.ofInt_neg]; simp
  rw [e, zero_sub, ← EReal.coe_neg, ← Int.cast_neg]
  exact scale_eq (-z) (by omega) (by omega)

end Cert.Quant

end
-- ==== Proof.Rows.lean ====
module

public import proofs.«01_k».proof.Proof.Gen.KernelIdeal.Skeleton
public import proofs.«01_k».proof.Proof.Gen.ReferenceIdeal.Skeleton
public import proofs.«01_k».proof.Proof.Quantiser
public import Idealize.ShloMosaic.PureOps.Ideal.Laws
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.Lib.WordSum

@[expose] public section

set_option maxRecDepth 16384

noncomputable section

/-! # The bodies' values, read at a row and a column

Each value of the kernel's body and of the reference's body, over the extended reals, at one index: the scaled product, a row's
largest magnitude, the row's exponent, the scale and the codes. -/

namespace Cert.Rows

open Idealize.ShloMosaic Idealize.ShloMosaic.ValueIdx Cert.Quant

/-- A column broadcast along the rows reads the column. -/
theorem broadcast_column {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of row `r` and lane `k` is what the reduction along the rows reads. -/
theorem lift_row {a b : ℕ} (h : (⟨2, ![a, b]⟩ : Shape).Reduces [1] ⟨1, ![a]⟩) (r : Fin a) (k : Fin b) :
    h.lift (ix1 r) k = ix2 r k := by
  funext ax
  match ax with
  | ⟨0, _⟩ => rfl
  | ⟨1, _⟩ => rfl

/-- A row's largest value is at most `b` when every value of the row is. -/
theorem rowMax_le_iff {a b : ℕ} (src : FVec Ideal ⟨2, ![a, b]⟩ .f32) (h : (⟨2, ![a, b]⟩ : Shape).Reduces [1] ⟨1, ![a]⟩)
    (hφ : FKind.Formats .f32) (hacc : 0xFF800000#32 = FKind.maximumf.neutral .f32 hφ) (r : Fin a) (B : EReal) :
    multiReduction .maximumf [1] ⟨1, ![a]⟩ src 0xFF800000#32 h hφ hacc (ix1 r) ≤ B ↔ ∀ k : Fin b, src (ix2 r k) ≤ B := by
  rw [Ideal.multiReduction_maximumf_single, Ideal.ofBits_def, ofBits_neg_inf]
  refine (Finset.fold_max_le _).trans ⟨fun hh k => ?_, fun hh => ⟨bot_le, fun k _ => ?_⟩⟩
  · have := hh.2 k (Finset.mem_univ _)
    exact (congrArg src (lift_row h r k)).symm.trans_le this
  · exact (congrArg src (lift_row h r k)).trans_le (hh k)

/-- The magnitude of an extended real. -/
def mag (x : EReal) : EReal := max x (-x)

/-- It is not negative. -/
theorem mag_nonneg (x : EReal) : 0 ≤ mag x := by
  unfold mag
  rcases le_total 0 x with h | h
  · exact le_trans h (le_max_left _ _)
  · refine le_trans ?_ (le_max_right _ _)
    have := EReal.neg_le_neg_iff.mpr h
    rwa [neg_zero] at this

/-! ## The kernel's body -/

section Kernel
open Cert.KernelIdeal Cert.KernelIdeal.Gen

/-- The scaled product of one block, at row `r` and column `j` of the block. -/
theorem kernel_product (v0 : Vec Ideal S128x5120 .fp8e4m3) (v2 : Vec Ideal S5120x768 .fp8e4m3) (v4 : Vec Ideal S128x1 .f32)
    (v8 : Vec Ideal S1x768 .f32) (r : Fin 128) (j : Fin 768) :
    Cert.KernelIdeal.Gen.k0_pay1 (F := Ideal) v0 v2 v4 v8 (ix2 r j)
      = (∑ k : Fin 5120, v0 (ix2 r k) * v2 (ix2 k j)) * v4 (ix2 r 0) * v8 (ix2 0 j) := by
  unfold Cert.KernelIdeal.Gen.k0_pay1
  rw [shapeCast_self, shapeCast_self, mulf_apply, mulf_apply]
  have e1 := broadcast_column (a := 128) (b := 768) v4 broadcasts_S128x1_S128x768 r j
  have e2 := broadcastTo_1b_ab_apply (a := 128) (b := 768) v8 broadcasts_S1x768_S128x768 r j
  have e3 := Ideal.matmul_plain_apply (M := 128) (K := 5120) (N := 768) (φ₁ := .fp8e4m3) (φ₂ := .fp8e4m3) none v0 v2
    (constant S128x768 .f32 0x00000000#32) r j
  rw [constant_apply, Cert.Quant.ofBits_zero, zero_add] at e3
  refine (congrArg₂ (· * ·) (congrArg₂ (· * ·) ?_ e1) e2)
  exact e3

/-- What one block stores is its scaled product. -/
theorem kernel_block (v0 : Vec Ideal S128x5120 .fp8e4m3) (v2 : Vec Ideal S5120x768 .fp8e4m3) (v4 : Vec Ideal S128x1 .f32)
    (v8 : Vec Ideal S1x768 .f32) : Cert.KernelIdeal.Gen.k0_pay2 (F := Ideal) v0 v2 v4 v8 = Cert.KernelIdeal.Gen.k0_pay1 v0 v2 v4 v8 := by
  unfold Cert.KernelIdeal.Gen.k0_pay2
  exact shapeCast_self _ _

/-- A block's row maximum is at most `B` when every magnitude of the block's row is. -/
theorem kernel_max (v0 : Vec Ideal S128x5120 .fp8e4m3) (v2 : Vec Ideal S5120x768 .fp8e4m3) (v4 : Vec Ideal S128x1 .f32)
    (v8 : Vec Ideal S1x768 .f32) (r : Fin 128) (B : EReal) :
    Cert.KernelIdeal.Gen.k0_pay3 (F := Ideal) v0 v2 v4 v8 (ix2 r 0) ≤ B
      ↔ ∀ j : Fin 768, mag (Cert.KernelIdeal.Gen.k0_pay1 (F := Ideal) v0 v2 v4 v8 (ix2 r j)) ≤ B := by
  unfold Cert.KernelIdeal.Gen.k0_pay3
  rw [shapeCast_a_a1_apply (a := 128) _ shapeCasts_S128_S128x1 r 0]
  exact rowMax_le_iff (a := 128) (b := 768) (absf (Cert.KernelIdeal.Gen.k0_pay1 (F := Ideal) v0 v2 v4 v8)) reduces_S128x768_S128 _ _ r B

/-- The first point stores its own row maximum, -/
theorem kernel_first (v0 : Vec Ideal S128x5120 .fp8e4m3) (v2 : Vec Ideal S5120x768 .fp8e4m3) (v4 : Vec Ideal S128x1 .f32)
    (v8 : Vec Ideal S1x768 .f32) : Cert.KernelIdeal.Gen.k0_pay4 (F := Ideal) v0 v2 v4 v8 = Cert.KernelIdeal.Gen.k0_pay3 v0 v2 v4 v8 := by
  unfold Cert.KernelIdeal.Gen.k0_pay4
  exact shapeCast_self _ _

/-- and a later one the larger of the stored maximum and its own. -/
theorem kernel_next (v0 : Vec Ideal S128x5120 .fp8e4m3) (v2 : Vec Ideal S5120x768 .fp8e4m3) (v4 : Vec Ideal S128x1 .f32)
    (v8 : Vec Ideal S1x768 .f32) (a : Vec Ideal S128x1 .f32) (i : S128x1.Idx) :
    Cert.KernelIdeal.Gen.k0_pay5 (F := Ideal) v0 v2 v4 v8 a i = max (a i) (Cert.KernelIdeal.Gen.k0_pay3 (F := Ideal) v0 v2 v4 v8 i) := by
  unfold Cert.KernelIdeal.Gen.k0_pay5
  rw [shapeCast_self]; rfl

/-- A lane's shift by 23 is the word's. -/
theorem shift_23 (w : BitVec 32) : IntOp.shli .vector w 23#32 = w <<< 23 := by
  unfold IntOp.shli
  rw [if_pos (by decide)]; rfl

/-- A comparison's bit, widened, counts one or nothing. -/
theorem setWidth_ofBool (p : Prop) [Decidable p] : ((BitVec.ofBool (decide p)).setWidth 32).toNat = if p then 1 else 0 := by
  by_cases h : p <;> simp [h]

/-- The kernel's count of one row: the lanes whose power of two is at most the value. -/
theorem kernel_count (v31 : FVec Ideal S128x1 .f32) (r : Fin 128) :
    multiReductionI .add [1] S128
      (extui 32 (cmpf .ole
        (broadcastTo S128x256 (bitcastToFloat (F := Ideal) .f32 (shli (iota .tc S1x256 32 [1] iota_S1x256_d1_w32) (broadcast S1x256 23#32))) broadcasts_S1x256_S128x256)
        (broadcastTo S128x256 v31 broadcasts_S128x1_S128x256)) natLt_1_32)
      0#32 reduces_S128x256_S128 rfl (ix1 r) = BitVec.ofNat 32 (Quant.count (v31 (ix2 r 0))) := by
  have lane : ∀ k : Fin 256, ((extui 32 (cmpf .ole
        (broadcastTo S128x256 (bitcastToFloat (F := Ideal) .f32 (shli (iota .tc S1x256 32 [1] iota_S1x256_d1_w32) (broadcast S1x256 23#32))) broadcasts_S1x256_S128x256)
        (broadcastTo S128x256 v31 broadcasts_S128x1_S128x256)) natLt_1_32 : IVec S128x256 32) (ix2 r k)).toNat
      = if power k.val ≤ v31 (ix2 r 0) then 1 else 0 := fun k => by
    have e1 := broadcast_column (a := 128) (b := 256) v31 broadcasts_S128x1_S128x256 r k
    have e2 := broadcastTo_1b_ab_apply (a := 128) (b := 256)
      (bitcastToFloat (F := Ideal) .f32 (shli (iota .tc S1x256 32 [1] iota_S1x256_d1_w32) (broadcast S1x256 23#32))) broadcasts_S1x256_S128x256 r k
    have e3 : (bitcastToFloat (F := Ideal) .f32 (shli (iota .tc S1x256 32 [1] iota_S1x256_d1_w32) (broadcast S1x256 23#32))) (ix2 (0 : Fin 1) k)
        = power k.val := by
      show Ideal.ofBits .f32 (IntOp.shli .vector (iota .tc S1x256 32 [1] iota_S1x256_d1_w32 (ix2 (0 : Fin 1) k)) 23#32) = _
      rw [iota_single_apply, shift_23]; rfl
    rw [← setWidth_ofBool, ← e3, ← e2, ← e1]
    rfl
  have tot : ∑ i ∈ Finset.univ.filter (fun i => reduces_S128x256_S128.drop i = ix1 r), ((extui 32 (cmpf .ole
        (broadcastTo S128x256 (bitcastToFloat (F := Ideal) .f32 (shli (iota .tc S1x256 32 [1] iota_S1x256_d1_w32) (broadcast S1x256 23#32))) broadcasts_S1x256_S128x256)
        (broadcastTo S128x256 v31 broadcasts_S128x1_S128x256)) natLt_1_32 : IVec S128x256 32) i).toNat = Quant.count (v31 (ix2 r 0)) := by
    rw [reduces_S128x256_S128.sum_filter_drop_single (fun i => ((extui 32 (cmpf .ole
        (broadcastTo S128x256 (bitcastToFloat (F := Ideal) .f32 (shli (iota .tc S1x256 32 [1] iota_S1x256_d1_w32) (broadcast S1x256 23#32))) broadcasts_S1x256_S128x256)
        (broadcastTo S128x256 v31 broadcasts_S128x1_S128x256)) natLt_1_32 : IVec S128x256 32) i).toNat) (ix1 r)]
    unfold Quant.count
    rw [Finset.card_filter]
    refine Finset.sum_congr rfl fun k _ => ?_
    rw [lift_row (a := 128) (b := 256) reduces_S128x256_S128 r k]
    exact lane k
  have hc := count_le (v31 (ix2 r 0))
  refine BitVec.eq_of_toNat_eq ?_
  refine (WordSum.toNat_multiReductionI_add _ _ _ _ (by rw [tot]; omega)).trans ?_
  rw [tot, BitVec.toNat_ofNat, Nat.mod_eq_of_lt (by omega)]

/-- The kernel's exponent of a row is the exponent of the row's largest magnitude. -/
theorem kernel_exponent (a : Vec Ideal S128x1 .f32) (r : Fin 128) :
    Cert.KernelIdeal.Gen.k0_pay7 (F := Ideal) a (ix2 r 0) = rowWord (a (ix2 r 0)) := by
  have e := kernel_count (mulf a (broadcast S128x1 (Scalar.ofBits .f32 0x3B124925#32))) r
  have e' := (shapeCast_a_a1_apply (a := 128) _ shapeCasts_S128_S128x1 r 0).trans e
  unfold rowWord
  rw [show a (ix2 r 0) * Ideal.ofBits .f32 0x3B124925#32
    = (mulf a (broadcast S128x1 (Scalar.ofBits .f32 0x3B124925#32)) : FVec Ideal S128x1 .f32) (ix2 r 0) from rfl, ← e']
  rfl

/-- The kernel's scale of a row. -/
theorem kernel_scale (a : Vec Ideal S128x1 .f32) (r : Fin 128) :
    Cert.KernelIdeal.Gen.k0_pay8 (F := Ideal) a (ix2 r 0) = wordScale (rowWord (a (ix2 r 0))) := by
  rw [← kernel_exponent]
  unfold wordScale fieldFloat
  rw [← shift_23]
  rfl

/-- The kernel's codes of a row, from the wide product and the negated exponents. -/
theorem kernel_codes (y : Vec Ideal S128x6912 .f32) (a : Vec Ideal S128x1 .f32) (r : Fin 128) (j : Fin 6912) :
    (Cert.KernelIdeal.Gen.k0_pay6 (F := Ideal) y (Cert.KernelIdeal.Gen.k0_pay9 a) (ix2 r j) : EReal)
      = min (Ideal.ofBits .f32 0x43E00000#32) (max (Ideal.ofBits .f32 0xC3E00000#32)
          (y (ix2 r j) * wordScale (IntOp.subi 0#32 (rowWord (a (ix2 r 0)))))) := by
  rw [← kernel_exponent]
  unfold wordScale fieldFloat
  rw [← shift_23]
  unfold Cert.KernelIdeal.Gen.k0_pay6
  rw [truncf_apply, minimumf_apply, maximumf_apply, mulf_apply]
  rw [broadcast_column (a := 128) (b := 6912) _ broadcasts_S128x1_S128x6912 r j]
  rfl

end Kernel

/-! ## The reference's body -/

section Reference
open Cert.ReferenceIdeal Cert.ReferenceIdeal.Gen

/-- The scaled product, at row `r` and column `j`. -/
theorem reference_product (v0 : Vec Ideal S128x5120 .fp8e4m3) (v2 : Vec Ideal S5120x6912 .fp8e4m3) (v4 : Vec Ideal S128x1 .f32)
    (v8 : Vec Ideal S1x6912 .f32) (r : Fin 128) (j : Fin 6912) :
    Cert.ReferenceIdeal.Gen.k0_pay4 (F := Ideal) v0 v2 v4 v8 (ix2 r j)
      = (∑ k : Fin 5120, v0 (ix2 r k) * v2 (ix2 k j)) * v4 (ix2 r 0) * v8 (ix2 0 j) := by
  unfold Cert.ReferenceIdeal.Gen.k0_pay4
  rw [shapeCast_self, shapeCast_self, mulf_apply, mulf_apply]
  have e1 := broadcast_column (a := 128) (b := 6912) v4 broadcasts_S128x1_S128x6912 r j
  have e2 := broadcastTo_1b_ab_apply (a := 128) (b := 6912) v8 broadcasts_S1x6912_S128x6912 r j
  have e3 := Ideal.matmul_plain_apply (M := 128) (K := 5120) (N := 6912) (φ₁ := .fp8e4m3) (φ₂ := .fp8e4m3) none v0 v2
    (constant S128x6912 .f32 0x00000000#32) r j
  rw [constant_apply, Cert.Quant.ofBits_zero, zero_add] at e3
  refine (congrArg₂ (· * ·) (congrArg₂ (· * ·) ?_ e1) e2)
  exact e3

/-- A row's largest magnitude is at most `B` when every magnitude of the row is. -/
theorem reference_max (v0 : Vec Ideal S128x5120 .fp8e4m3) (v2 : Vec Ideal S5120x6912 .fp8e4m3) (v4 : Vec Ideal S128x1 .f32)
    (v8 : Vec Ideal S1x6912 .f32) (r : Fin 128) (B : EReal) :
    Cert.ReferenceIdeal.Gen.k0_pay5 (F := Ideal) v0 v2 v4 v8 (ix2 r 0) ≤ B
      ↔ ∀ j : Fin 6912, mag (Cert.ReferenceIdeal.Gen.k0_pay4 (F := Ideal) v0 v2 v4 v8 (ix2 r j)) ≤ B := by
  unfold Cert.ReferenceIdeal.Gen.k0_pay5
  rw [shapeCast_a_a1_apply (a := 128) _ shapeCasts_S128_S128x1 r 0]
  exact rowMax_le_iff (a := 128) (b := 6912) (absf (Cert.ReferenceIdeal.Gen.k0_pay4 (F := Ideal) v0 v2 v4 v8)) reduces_S128x6912_S128 _ _ r B

/-- The reference's largest exponent of one row. -/
theorem reference_fold (v15 : FVec Ideal S128x1 .f32) (r : Fin 128) :
    multiReduction .maximumf [1] S128
      (select (cmpf .ole
          (broadcastTo S128x254 (exp2 (subf (sitofp (F := Ideal) .f32 (iota .tc S1x254 32 [1] iota_S1x254_d1_w32)) (broadcast S1x254 (Scalar.ofBits .f32 0x42FC0000#32)))) broadcasts_S1x254_S128x254)
          (broadcastTo S128x254 v15 broadcasts_S128x1_S128x254))
        (broadcastTo S128x254 (shapeCast S1x254 (addf (subf (sitofp (F := Ideal) .f32 (iota .tc S1x254 32 [1] iota_S1x254_d1_w32)) (broadcast S1x254 (Scalar.ofBits .f32 0x42FC0000#32))) (broadcast S1x254 (Scalar.ofBits .f32 0x3F800000#32))) shapeCasts_S1x254_S1x254) broadcasts_S1x254_S128x254)
        (broadcast S128x254 (Scalar.ofBits (F := Ideal) .f32 0xFF800000#32)))
      0xFF800000#32 reduces_S128x254_S128 (.inl rfl) rfl (ix1 r) = foldExponent (v15 (ix2 r 0)) := by
  refine (Ideal.multiReduction_maximumf_single _ _ _ _ _ _).trans ?_
  unfold foldExponent
  refine congrArg (fun f => Finset.fold max _ f _) (funext fun k => ?_)
  rw [Function.comp_apply, lift_row (a := 128) (b := 254) reduces_S128x254_S128 r k]
  have e1 := broadcast_column (a := 128) (b := 254) v15 broadcasts_S128x1_S128x254 r k
  have e2 := broadcastTo_1b_ab_apply (a := 128) (b := 254)
    (exp2 (subf (sitofp (F := Ideal) .f32 (iota .tc S1x254 32 [1] iota_S1x254_d1_w32)) (broadcast S1x254 (Scalar.ofBits .f32 0x42FC0000#32)))) broadcasts_S1x254_S128x254 r k
  have e3 := broadcastTo_1b_ab_apply (a := 128) (b := 254)
    (shapeCast S1x254 (addf (subf (sitofp (F := Ideal) .f32 (iota .tc S1x254 32 [1] iota_S1x254_d1_w32)) (broadcast S1x254 (Scalar.ofBits .f32 0x42FC0000#32))) (broadcast S1x254 (Scalar.ofBits .f32 0x3F800000#32))) shapeCasts_S1x254_S1x254) broadcasts_S1x254_S128x254 r k
  have e4 : (subf (sitofp (F := Ideal) .f32 (iota .tc S1x254 32 [1] iota_S1x254_d1_w32)) (broadcast S1x254 (Scalar.ofBits .f32 0x42FC0000#32)) : FVec Ideal S1x254 .f32) (ix2 (0 : Fin 1) k)
      = candidate k.val := by
    show (((iota .tc S1x254 32 [1] iota_S1x254_d1_w32 (ix2 (0 : Fin 1) k)).toInt : ℝ) : EReal) - Ideal.ofBits .f32 0x42FC0000#32 = _
    rw [iota_single_apply]; rfl
  rw [shapeCast_self] at e3
  rw [← e4]
  show Scalar.select (Ideal.cmp .ole (broadcastTo S128x254 _ broadcasts_S1x254_S128x254 (ix2 r k)) (broadcastTo S128x254 v15 broadcasts_S128x1_S128x254 (ix2 r k)))
    (broadcastTo S128x254 (shapeCast S1x254 _ shapeCasts_S1x254_S1x254) broadcasts_S1x254_S128x254 (ix2 r k)) _ = _
  rw [shapeCast_self]
  refine (congrArg₂ (fun p q => Scalar.select p q _) (congrArg₂ (Ideal.cmp .ole) e2 e1) e3)

/-- The reference's exponent of a row, before the row of zeros is set apart. -/
theorem reference_exponent (v0 : Vec Ideal S128x5120 .fp8e4m3) (v2 : Vec Ideal S5120x6912 .fp8e4m3) (v4 : Vec Ideal S128x1 .f32)
    (v8 : Vec Ideal S1x6912 .f32) (r : Fin 128) :
    Cert.ReferenceIdeal.Gen.k0_pay6 (F := Ideal) v0 v2 v4 v8 (ix2 r 0)
      = realExponent (Cert.ReferenceIdeal.Gen.k0_pay5 (F := Ideal) v0 v2 v4 v8 (ix2 r 0) * Ideal.ofBits .f32 0x3B124925#32) := by
  unfold Cert.ReferenceIdeal.Gen.k0_pay6
  generalize Cert.ReferenceIdeal.Gen.k0_pay5 (F := Ideal) v0 v2 v4 v8 = a
  have e := reference_fold (mulf a (broadcast S128x1 (Scalar.ofBits .f32 0x3B124925#32))) r
  have e' := (shapeCast_a_a1_apply (a := 128) _ shapeCasts_S128_S128x1 r 0).trans e
  unfold realExponent
  rw [show a (ix2 r 0) * Ideal.ofBits .f32 0x3B124925#32
    = (mulf a (broadcast S128x1 (Scalar.ofBits .f32 0x3B124925#32)) : FVec Ideal S128x1 .f32) (ix2 r 0) from rfl, ← e']
  rfl

/-- The scale's body reads the row's exponent. -/
theorem scale_body (e : FVec Ideal S128x1 .f32) (z : IVec S128x1 1) (i : S128x1.Idx) :
    Cert.ReferenceIdeal.Gen.k0_pay2 (F := Ideal) e z i = realScale (Cert.ReferenceIdeal.Gen.k0_pay1 (F := Ideal) e z i) := by
  unfold Cert.ReferenceIdeal.Gen.k0_pay2 realScale
  rfl

/-- The codes' body reads the product and the row's exponent. -/
theorem codes_body (y : FVec Ideal S128x6912 .f32) (e : FVec Ideal S128x1 .f32) (z : IVec S128x1 1) (r : Fin 128) (j : Fin 6912) :
    (Cert.ReferenceIdeal.Gen.k0_pay3 (F := Ideal) y e z (ix2 r j) : EReal)
      = min (Ideal.ofBits .f32 0x43E00000#32) (max (Ideal.ofBits .f32 0xC3E00000#32)
          (y (ix2 r j) * realScale (Ideal.ofBits .f32 0x00000000#32 - Cert.ReferenceIdeal.Gen.k0_pay1 (F := Ideal) e z (ix2 r 0)))) := by
  unfold Cert.ReferenceIdeal.Gen.k0_pay3 realScale
  rw [truncf_apply, minimumf_apply, maximumf_apply, mulf_apply]
  rw [broadcast_column (a := 128) (b := 6912) _ broadcasts_S128x1_S128x6912 r j]
  rfl

/-- The row of zeros set apart. -/
theorem row_body (e : FVec Ideal S128x1 .f32) (a : FVec Ideal S128x1 .f32) (i : S128x1.Idx) :
    Cert.ReferenceIdeal.Gen.k0_pay1 (F := Ideal) e (cmpf .oeq a (broadcast S128x1 (Scalar.ofBits .f32 0x00000000#32))) i
      = Scalar.select (Ideal.cmp .oeq (a i) (Ideal.ofBits .f32 0x00000000#32)) (Ideal.ofBits .f32 0x00000000#32) (e i) := by
  unfold Cert.ReferenceIdeal.Gen.k0_pay1
  rfl

/-- The reference's exponent of a row. -/
theorem reference_row (v0 : Vec Ideal S128x5120 .fp8e4m3) (v2 : Vec Ideal S5120x6912 .fp8e4m3) (v4 : Vec Ideal S128x1 .f32)
    (v8 : Vec Ideal S1x6912 .f32) (r : Fin 128) :
    Cert.ReferenceIdeal.Gen.k0_pay1 (F := Ideal) (Cert.ReferenceIdeal.Gen.k0_pay6 v0 v2 v4 v8) (Cert.ReferenceIdeal.Gen.k0_pay7 v0 v2 v4 v8) (ix2 r 0)
      = rowReal (Cert.ReferenceIdeal.Gen.k0_pay5 (F := Ideal) v0 v2 v4 v8 (ix2 r 0)) := by
  unfold rowReal
  rw [← reference_exponent]
  unfold Cert.ReferenceIdeal.Gen.k0_pay7
  exact row_body _ _ _

/-- The reference's scale of a row. -/
theorem reference_scale (v0 : Vec Ideal S128x5120 .fp8e4m3) (v2 : Vec Ideal S5120x6912 .fp8e4m3) (v4 : Vec Ideal S128x1 .f32)
    (v8 : Vec Ideal S1x6912 .f32) (r : Fin 128) :
    Cert.ReferenceIdeal.Gen.k0_pay2 (F := Ideal) (Cert.ReferenceIdeal.Gen.k0_pay6 v0 v2 v4 v8) (Cert.ReferenceIdeal.Gen.k0_pay7 v0 v2 v4 v8) (ix2 r 0)
      = realScale (rowReal (Cert.ReferenceIdeal.Gen.k0_pay5 (F := Ideal) v0 v2 v4 v8 (ix2 r 0))) := by
  rw [← reference_row]
  exact scale_body _ _ _

/-- The reference's codes of a row. -/
theorem reference_codes (v0 : Vec Ideal S128x5120 .fp8e4m3) (v2 : Vec Ideal S5120x6912 .fp8e4m3) (v4 : Vec Ideal S128x1 .f32)
    (v8 : Vec Ideal S1x6912 .f32) (y : FVec Ideal S128x6912 .f32) (r : Fin 128) (j : Fin 6912) :
    (Cert.ReferenceIdeal.Gen.k0_pay3 (F := Ideal) y (Cert.ReferenceIdeal.Gen.k0_pay6 v0 v2 v4 v8) (Cert.ReferenceIdeal.Gen.k0_pay7 v0 v2 v4 v8) (ix2 r j) : EReal)
      = min (Ideal.ofBits .f32 0x43E00000#32) (max (Ideal.ofBits .f32 0xC3E00000#32)
          (y (ix2 r j) * realScale (Ideal.ofBits .f32 0x00000000#32 - rowReal (Cert.ReferenceIdeal.Gen.k0_pay5 (F := Ideal) v0 v2 v4 v8 (ix2 r 0))))) := by
  rw [← reference_row]
  exact codes_body _ _ _ _ _

end Reference

end Cert.Rows

end
-- ==== Proof.Equation.lean ====
module

public import proofs.«01_k».proof.Defs
public import proofs.«01_k».proof.Proof.KernelValue
public import proofs.«01_k».proof.Proof.ReferenceValue
public import proofs.«01_k».proof.Proof.Rows

@[expose] public section

set_option maxRecDepth 16384

noncomputable section

/-! # The equation

Over the extended reals the kernel's nine blocks of columns are the reference's product, its running row maxima end at the
reference's row maxima, and so both leave the same scales and the same codes. -/

namespace Cert.Equation

open Idealize.ShloMosaic Idealize.ShloMosaic.TcCoe Idealize.ShloMosaic.ValueIdx Idealize.SL.Sem Cert.Quant Cert.Rows

/-- The kernel's memory. -/
abbrev Mem : Type := (ℓ : Loc Cert.KernelIdeal.nD Cert.KernelIdeal.τ Cert.KernelIdeal.sig) → Buf (Elt Ideal) ℓ

open Cert.KernelIdeal in
/-- The four arrays the kernel's launch finds. -/
def opX (m : Mem) (c : Dev nD) : Vec Ideal S128x5120 .fp8e4m3 := Cert.KernelIdeal.Gen.V m c main_v0
open Cert.KernelIdeal in
def opXs (m : Mem) (c : Dev nD) : Vec Ideal S128x1 .f32 := Cert.KernelIdeal.Gen.V m c main_v1
open Cert.KernelIdeal in
def opW (m : Mem) (c : Dev nD) : Vec Ideal S5120x6912 .fp8e4m3 := Cert.KernelIdeal.Gen.V m c main_arg2
open Cert.KernelIdeal in
def opWs (m : Mem) (c : Dev nD) : Vec Ideal S1x6912 .f32 := Cert.KernelIdeal.Gen.V m c main_arg3

/-- The reference's product of those arrays, -/
def prod (m : Mem) (c : Dev Cert.KernelIdeal.nD) : FVec Ideal Cert.ReferenceIdeal.S128x6912 .f32 :=
  Cert.ReferenceIdeal.Gen.k0_pay4 (F := Ideal) (opX m c) (opW m c) (opXs m c) (opWs m c)

/-- and its largest magnitudes, row by row. -/
def largest (m : Mem) (c : Dev Cert.KernelIdeal.nD) : FVec Ideal Cert.ReferenceIdeal.S128x1 .f32 :=
  Cert.ReferenceIdeal.Gen.k0_pay5 (F := Ideal) (opX m c) (opW m c) (opXs m c) (opWs m c)

open Cert.KernelIdeal Cert.KernelIdeal.Gen

/-- The block of point `t` is the reference's product at the point's columns. -/
theorem block_eq (m : Mem) (c : Dev nD) (t : Fin cfg0.N) (r : Fin 128) (j : Fin 768) :
    k0_pay1 (F := Ideal) (iblk m c 0 t) (iblk m c 2 t) (iblk m c 1 t) (iblk m c 3 t) (ix2 r j)
      = prod m c (ix2 r ⟨768 * t.val + j.val, column_lt t j⟩) := by
  unfold prod
  refine (kernel_product _ _ _ _ r j).trans (Eq.trans ?_ (reference_product _ _ _ _ r _).symm)
  refine congrArg₂ (· * ·) (congrArg₂ (· * ·) (Finset.sum_congr rfl fun k _ => congrArg₂ (· * ·) ?_ ?_) ?_) ?_
  · exact congrFun (iblk_0 m c t) _
  · exact iblk_2 m c t k j
  · exact congrFun (iblk_1 m c t) _
  · exact iblk_3 m c t j

/-- The nine blocks side by side are the reference's product. -/
theorem wide_eq (m : Mem) (c : Dev nD) (r : Fin 128) (j : Fin 6912) : wide m c (ix2 r j) = prod m c (ix2 r j) := by
  have hlt : j.val / 768 < cfg0.N := by
    have h := j.isLt
    rw [show cfg0.N = 9 from N_0]; omega
  have e := (congrFun (kernel_block (iblk m c 0 ⟨j.val / 768, hlt⟩) (iblk m c 2 ⟨j.val / 768, hlt⟩) (iblk m c 1 ⟨j.val / 768, hlt⟩)
    (iblk m c 3 ⟨j.val / 768, hlt⟩)) (ix2 r ⟨j.val % 768, Nat.mod_lt _ (by decide)⟩)).trans (block_eq m c ⟨j.val / 768, hlt⟩ r ⟨j.val % 768, Nat.mod_lt _ (by decide)⟩)
  refine Eq.trans e (congrArg (fun q => prod m c (ix2 r q)) (Fin.ext ?_))
  exact Nat.div_add_mod j.val 768

/-- A block's row maximum is at most `B` when the magnitudes at the block's columns are. -/
theorem block_max (m : Mem) (c : Dev nD) (t : Fin cfg0.N) (r : Fin 128) (B : EReal) :
    k0_pay3 (F := Ideal) (iblk m c 0 t) (iblk m c 2 t) (iblk m c 1 t) (iblk m c 3 t) (ix2 r 0) ≤ B
      ↔ ∀ j : Fin 6912, 768 * t.val ≤ j.val → j.val < 768 * (t.val + 1) → mag (prod m c (ix2 r j)) ≤ B := by
  refine (kernel_max _ _ _ _ r B).trans ⟨fun h j hl hu => ?_, fun h k => ?_⟩
  · have h' := h ⟨j.val - 768 * t.val, by omega⟩
    rw [block_eq] at h'
    have hj : (⟨768 * t.val + (j.val - 768 * t.val), column_lt t ⟨j.val - 768 * t.val, by omega⟩⟩ : Fin 6912) = j := Fin.ext (by show 768 * t.val + (j.val - 768 * t.val) = j.val; omega)
    rwa [hj] at h'
  · rw [block_eq]
    exact h _ (Nat.le_add_right _ _) (by have := k.isLt; show 768 * t.val + k.val < _; omega)

/-- After point `n` the running row maximum is at most `B` when the magnitudes at the columns so far are. -/
theorem running_max (m : Mem) (c : Dev nD) (r : Fin 128) (B : EReal) : ∀ (n : ℕ) (h : n < cfg0.N),
    (amaxAt m c n h (ix2 r 0) : EReal) ≤ B ↔ ∀ j : Fin 6912, j.val < 768 * (n + 1) → mag (prod m c (ix2 r j)) ≤ B
  | 0, h => by
    have e := congrFun (kernel_first (iblk m c 0 ⟨0, h⟩) (iblk m c 2 ⟨0, h⟩) (iblk m c 1 ⟨0, h⟩) (iblk m c 3 ⟨0, h⟩)) (ix2 r 0)
    unfold amaxAt
    rw [e]
    refine (block_max m c ⟨0, h⟩ r B).trans ⟨fun hh j hj => hh j (Nat.zero_le _) hj, fun hh j _ hj => hh j hj⟩
  | n + 1, h => by
    have e := kernel_next (iblk m c 0 ⟨n + 1, h⟩) (iblk m c 2 ⟨n + 1, h⟩) (iblk m c 1 ⟨n + 1, h⟩) (iblk m c 3 ⟨n + 1, h⟩)
      (amaxAt m c n (Nat.lt_of_succ_lt h)) (ix2 r 0)
    unfold amaxAt
    rw [e]
    refine max_le_iff.trans ((and_congr (running_max m c r B n (Nat.lt_of_succ_lt h)) (block_max m c ⟨n + 1, h⟩ r B)).trans ?_)
    refine ⟨fun hh j hj => ?_, fun hh => ⟨fun j hj => hh j (by omega), fun j _ hj => hh j hj⟩⟩
    by_cases hb : j.val < 768 * (n + 1)
    · exact hh.1 j hb
    · exact hh.2 j (Nat.le_of_not_lt hb) hj

/-- The kernel's row maxima end at the reference's. -/
theorem largest_eq (m : Mem) (c : Dev nD) (r : Fin 128) : amaxAt m c 8 eight_lt (ix2 r 0) = largest m c (ix2 r 0) := by
  refine eq_of_forall_ge_iff (α := EReal) fun B => ?_
  refine (running_max m c r B 8 eight_lt).trans (Iff.trans ?_ (reference_max _ _ _ _ r B).symm)
  exact ⟨fun h j => h j j.isLt, fun h j _ => h j⟩

/-- A row's largest magnitude is not negative. -/
theorem largest_nonneg (m : Mem) (c : Dev nD) (r : Fin 128) : (0 : EReal) ≤ largest m c (ix2 r 0) :=
  le_trans (mag_nonneg _) ((reference_max (opX m c) (opW m c) (opXs m c) (opWs m c) r _).mp le_rfl 0)

/-- The scales agree. -/
theorem scale_eq (m : Mem) (c : Dev nD) :
    scaleOut m c = Cert.ReferenceIdeal.Gen.scaleRef (F := Ideal) (opX m c) (opXs m c) (opW m c) (opWs m c) := by
  refine funext fun x => ?_
  obtain ⟨r, u, rfl⟩ : ∃ (r : Fin 128) (u : Fin 1), x = ix2 r u := ⟨x 0, x 1, funext fun a => by
    match a with
    | ⟨0, _⟩ => rfl
    | ⟨1, _⟩ => rfl⟩
  obtain rfl : u = 0 := Subsingleton.elim _ _
  unfold scaleOut Cert.ReferenceIdeal.Gen.scaleRef
  refine (kernel_scale _ r).trans (Eq.trans ?_ (reference_scale _ _ _ _ r).symm)
  rw [largest_eq]
  exact row_scale _ (largest_nonneg m c r)

/-- The codes agree. -/
theorem codes_eq (m : Mem) (c : Dev nD) :
    codesOut m c = Cert.ReferenceIdeal.Gen.codesRef (F := Ideal) (opX m c) (opXs m c) (opW m c) (opWs m c) := by
  refine funext fun x => ?_
  obtain ⟨r, j, rfl⟩ : ∃ (r : Fin 128) (j : Fin 6912), x = ix2 r j := ⟨x 0, x 1, funext fun a => by
    match a with
    | ⟨0, _⟩ => rfl
    | ⟨1, _⟩ => rfl⟩
  unfold codesOut Cert.ReferenceIdeal.Gen.codesRef
  refine (kernel_codes _ _ r j).trans (Eq.trans ?_ (reference_codes _ _ _ _ _ r j).symm)
  rw [largest_eq, wide_eq, row_inverse _ (largest_nonneg m c r)]
  rfl

/-- From memories whose arguments agree, both programs end with the same scales and the same codes. -/
theorem algebraic : Cert.algebraic_KernelIdeal_ReferenceIdeal := by
  intro m g m' g' _ hargs
  refine ⟨fun c => scaleOut m c, fun c => codesOut m c, run_value m g, ?_⟩
  refine (θ_run _ _ _).mono (fun r h c => ?_) (Cert.ReferenceIdeal.Gen.run_value m' g')
  obtain ⟨a0, a1, a2, a3⟩ := hargs c
  have e0 : Cert.ReferenceIdeal.Gen.V m' c Cert.ReferenceIdeal.main_v0 = opX m c := by
    unfold opX
    rw [Cert.ReferenceIdeal.Gen.V_main_v0, Cert.KernelIdeal.Gen.V_main_v0, a0]
  have e1 : Cert.ReferenceIdeal.Gen.V m' c Cert.ReferenceIdeal.main_v1 = opXs m c := by
    unfold opXs
    rw [Cert.ReferenceIdeal.Gen.V_main_v1, Cert.KernelIdeal.Gen.V_main_v1, a1]
  have e2 : Cert.ReferenceIdeal.Gen.V m' c Cert.ReferenceIdeal.main_arg2 = opW m c := by
    unfold opW
    rw [Cert.ReferenceIdeal.Gen.V_main_arg2, Cert.KernelIdeal.Gen.V_main_arg2]
    exact a2
  have e3 : Cert.ReferenceIdeal.Gen.V m' c Cert.ReferenceIdeal.main_arg3 = opWs m c := by
    unfold opWs
    rw [Cert.ReferenceIdeal.Gen.V_main_arg3, Cert.KernelIdeal.Gen.V_main_arg3]
    exact a3
  have hc := h c
  rw [e0, e1, e2, e3] at hc
  exact ⟨hc.1.trans (scale_eq m c).symm, hc.2.1.trans (codes_eq m c).symm, hc.2.2⟩

end Cert.Equation

end
-- ==== Proof.lean ====
/- The certificate: the frames of the three programs, `preserves`, and the value claim, from the modules under `Proof/`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.IdealFrame
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  Cert.Equation.algebraic⟩

end Cert.Proof

end
